-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10))
      ∧ r.2.sem = fun _ => 0)

def preserves_Kernel_KernelIdeal : Prop :=
  IdealRules.named_const.Statement Cert.KernelIdeal.κ "neg_inf" .f32 0xF149F2CA#32 ⊥
  ∧ IdealRules.named_const.Statement Cert.KernelIdeal.κ "half_log2e" .f32 0x3F38AA3B#32 (((2 * (Real.log 2))⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "log_vocab" .f32 0x41260201#32 ((Real.log 32064 : ℝ) : EReal)
  ∧ IdealRules.named_const.Statement Cert.KernelIdeal.κ "log2_three_quarters" .f32 0xBED47FCC#32 (((Real.log (3 / 4)) * (Real.log 2)⁻¹ : ℝ) : EReal)
  ∧ IdealRules.named_const.Statement Cert.KernelIdeal.κ "grad_slope" .f32 0x3F051592#32 (((3 / 4) * (Real.log 2) : ℝ) : EReal)
  ∧ IdealRules.named_const.Statement Cert.KernelIdeal.κ "grad_offset" .f32 0xBE5CF099#32 (((3 / 4) * (Real.log (3 / 4)) : ℝ) : EReal)

def preserves_Reference_ReferenceIdeal : Prop :=
  IdealRules.named_const.Statement Cert.ReferenceIdeal.κ "log_vocab" .f32 0x41260201#32 ((Real.log 32064 : ℝ) : EReal)

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_2)) (v2 : (c : Dev Cert.KernelIdeal.nD) → Buf (Elt Ideal) ((c.tc : Thread Cert.KernelIdeal.nD Cert.KernelIdeal.τ).loc Cert.KernelIdeal.main_v6_5)) (v3 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_2) = v1 c
          ∧ r.2.mem ((c.tc : Thread Cert.KernelIdeal.nD Cert.KernelIdeal.τ).loc Cert.KernelIdeal.main_v6_5) = v2 c
          ∧ r.2.mem ((c.tc : Thread Cert.KernelIdeal.nD Cert.KernelIdeal.τ).loc Cert.KernelIdeal.main_v6_6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61_0) = v0 c
          ∧ r.2.mem ((c.tc : Thread Cert.ReferenceIdeal.nD Cert.ReferenceIdeal.τ).loc Cert.ReferenceIdeal.main_v61_1) = v1 c
          ∧ r.2.mem ((c.tc : Thread Cert.ReferenceIdeal.nD Cert.ReferenceIdeal.τ).loc Cert.ReferenceIdeal.main_v61_2) = v2 c
          ∧ r.2.mem ((c.tc : Thread Cert.ReferenceIdeal.nD Cert.ReferenceIdeal.τ).loc Cert.ReferenceIdeal.main_v61_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hReference : Cert.Reference.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Reference (hReference := hReference)
    ∧ preserves_Kernel_KernelIdeal
    ∧ preserves_Reference_ReferenceIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S2x128x3072 : Shape := ⟨3, ![2, 128, 3072]⟩
abbrev S2x128x5120 : Shape := ⟨3, ![2, 128, 5120]⟩
abbrev S3072 : Shape := ⟨1, ![3072]⟩
abbrev S5120 : Shape := ⟨1, ![5120]⟩
abbrev S2560x32064 : Shape := ⟨2, ![2560, 32064]⟩
abbrev S40x32064 : Shape := ⟨2, ![40, 32064]⟩
abbrev S32064x3072 : Shape := ⟨2, ![32064, 3072]⟩
abbrev S32064 : Shape := ⟨1, ![32064]⟩
abbrev S128 : Shape := ⟨1, ![128]⟩
abbrev S1 : Shape := ⟨1, ![1]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S2x128x3072 .bf16) (main_arg1 : FVec F S2x128x5120 .bf16) (main_arg2 : FVec F S3072 .f32) (main_arg3 : FVec F S5120 .f32) (main_arg4 : IVec S2560x32064 8) (main_arg5 : FVec F S40x32064 .f32) (main_arg6 : FVec F S40x32064 .f32) (main_arg7 : FVec F S32064x3072 .fp8e4m3) (main_arg8 : FVec F S32064 .f32) (main_arg9 : IVec S128 32) (main_arg10 : IVec S1 32) : IVec S128 1 :=
  let main_c : IVec S_ 32 := constantI S_ 32 0#32
  let main_v0 : IVec S128 32 := broadcastInDim S128 ![] bcast_S_S128 main_c
  let main_v1 : IVec S128 1 := cmpi .sge main_arg9 main_v0
  let main_c_0 : IVec S_ 32 := constantI S_ 32 256#32
  let main_v2 : IVec S128 32 := broadcastInDim S128 ![] bcast_S_S128 main_c_0
  let main_v3 : IVec S128 1 := cmpi .slt main_arg9 main_v2
  let main_v4 : IVec S128 1 := andi main_v1 main_v3
  main_v4
-- ==== Kernel.lean ====
abbrev S2x128x3072 : Shape := ⟨3, ![2, 128, 3072]⟩
abbrev S2x128x5120 : Shape := ⟨3, ![2, 128, 5120]⟩
abbrev S3072 : Shape := ⟨1, ![3072]⟩
abbrev S5120 : Shape := ⟨1, ![5120]⟩
abbrev S2560x32064 : Shape := ⟨2, ![2560, 32064]⟩
abbrev S40x32064 : Shape := ⟨2, ![40, 32064]⟩
abbrev S32064x3072 : Shape := ⟨2, ![32064, 3072]⟩
abbrev S32064 : Shape := ⟨1, ![32064]⟩
abbrev S128 : Shape := ⟨1, ![128]⟩
abbrev S1 : Shape := ⟨1, ![1]⟩
abbrev S256x3072 : Shape := ⟨2, ![256, 3072]⟩
abbrev S256x5120 : Shape := ⟨2, ![256, 5120]⟩
abbrev S128x1 : Shape := ⟨2, ![128, 1]⟩
abbrev S1x3072 : Shape := ⟨2, ![1, 3072]⟩
abbrev S1x5120 : Shape := ⟨2, ![1, 5120]⟩
abbrev S1x32064 : Shape := ⟨2, ![1, 32064]⟩
abbrev S128x3072 : Shape := ⟨2, ![128, 3072]⟩
abbrev S2560x768 : Shape := ⟨2, ![2560, 768]⟩
abbrev S40x768 : Shape := ⟨2, ![40, 768]⟩
abbrev S768x3072 : Shape := ⟨2, ![768, 3072]⟩
abbrev S1x768 : Shape := ⟨2, ![1, 768]⟩
abbrev S42x128x768 : Shape := ⟨3, ![42, 128, 768]⟩
abbrev S128x5120 : Shape := ⟨2, ![128, 5120]⟩
abbrev S128x128 : Shape := ⟨2, ![128, 128]⟩
abbrev S128x256 : Shape := ⟨2, ![128, 256]⟩
abbrev S128x768 : Shape := ⟨2, ![128, 768]⟩
abbrev S128x1x768 : Shape := ⟨3, ![128, 1, 768]⟩
abbrev S128x2x768 : Shape := ⟨3, ![128, 2, 768]⟩
abbrev S256x768 : Shape := ⟨2, ![256, 768]⟩
abbrev S1x128x768 : Shape := ⟨3, ![1, 128, 768]⟩
abbrev S1x128x128 : Shape := ⟨3, ![1, 128, 128]⟩
abbrev S768x128 : Shape := ⟨2, ![768, 128]⟩
abbrev S768x256 : Shape := ⟨2, ![768, 256]⟩
abbrev S256x256 : Shape := ⟨2, ![256, 256]⟩

abbrev nBuf : Space → Nat
  | .hbm => 24
  | .vmem => 34
  | .smem => 1
  | _ => 0

abbrev bufTy : (tb : Table) → Fin (tcTables nBuf tb) → BufTy
  | .hbm, ⟨0, _⟩ => ⟨S2x128x3072, .bf16⟩
  | .hbm, ⟨1, _⟩ => ⟨S2x128x5120, .bf16⟩
  | .hbm, ⟨2, _⟩ => ⟨S3072, .f32⟩
  | .hbm, ⟨3, _⟩ => ⟨S5120, .f32⟩
  | .hbm, ⟨4, _⟩ => ⟨S2560x32064, .i8⟩
  | .hbm, ⟨5, _⟩ => ⟨S40x32064, .f32⟩
  | .hbm, ⟨6, _⟩ => ⟨S40x32064, .f32⟩
  | .hbm, ⟨7, _⟩ => ⟨S32064x3072, .fp8e4m3⟩
  | .hbm, ⟨8, _⟩ => ⟨S32064, .f32⟩
  | .hbm, ⟨9, _⟩ => ⟨S128, .i32⟩
  | .hbm, ⟨10, _⟩ => ⟨S1, .i32⟩
  | .hbm, ⟨11, _⟩ => ⟨S256x3072, .bf16⟩
  | .hbm, ⟨12, _⟩ => ⟨S256x5120, .bf16⟩
  | .hbm, ⟨13, _⟩ => ⟨S128x1, .i32⟩
  | .hbm, ⟨14, _⟩ => ⟨S1x3072, .f32⟩
  | .hbm, ⟨15, _⟩ => ⟨S1x5120, .f32⟩
  | .hbm, ⟨16, _⟩ => ⟨S1x32064, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x3072, .bf16⟩
  | .hbm, ⟨21, _⟩ => ⟨S128x3072, .f32⟩
  | .hbm, ⟨22, _⟩ => ⟨S128x3072, .fp8e4m3⟩
  | .hbm, ⟨23, _⟩ => ⟨S128x1, .f32⟩
  | .local _ .vmem, ⟨0, _⟩ => ⟨S128x1, .i32⟩
  | .local _ .vmem, ⟨1, _⟩ => ⟨S256x3072, .bf16⟩
  | .local _ .vmem, ⟨2, _⟩ => ⟨S256x5120, .bf16⟩
  | .local _ .vmem, ⟨3, _⟩ => ⟨S1x3072, .f32⟩
  | .local _ .vmem, ⟨4, _⟩ => ⟨S1x5120, .f32⟩
  | .local _ .vmem, ⟨5, _⟩ => ⟨S2560x768, .i8⟩
  | .local _ .vmem, ⟨6, _⟩ => ⟨S2560x768, .i8⟩
  | .local _ .vmem, ⟨7, _⟩ => ⟨S40x768, .f32⟩
  | .local _ .vmem, ⟨8, _⟩ => ⟨S40x768, .f32⟩
  | .local _ .vmem, ⟨9, _⟩ => ⟨S40x768, .f32⟩
  | .local _ .vmem, ⟨10, _⟩ => ⟨S40x768, .f32⟩
  | .local _ .vmem, ⟨11, _⟩ => ⟨S768x3072, .fp8e4m3⟩
  | .local _ .vmem, ⟨12, _⟩ => ⟨S768x3072, .fp8e4m3⟩
  | .local _ .vmem, ⟨13, _⟩ => ⟨S1x768, .f32⟩
  | .local _ .vmem, ⟨14, _⟩ => ⟨S1x768, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | .local _ .vmem, ⟨18, _⟩ => ⟨S128x3072, .bf16⟩
  | .local _ .vmem, ⟨19, _⟩ => ⟨S128x3072, .f32⟩
  | .local _ .vmem, ⟨20, _⟩ => ⟨S128x3072, .fp8e4m3⟩
  | .local _ .vmem, ⟨21, _⟩ => ⟨S128x1, .f32⟩
  | .local _ .vmem, ⟨22, _⟩ => ⟨S42x128x768, .f32⟩
  | .local _ .vmem, ⟨23, _⟩ => ⟨S42x128x768, .f32⟩
  | .local _ .vmem, ⟨24, _⟩ => ⟨S128x5120, .bf16⟩
  | .local _ .vmem, ⟨25, _⟩ => ⟨S128x3072, .f32⟩
  | .local _ .vmem, ⟨26, _⟩ => ⟨S128x1, .f32⟩
  | .local _ .vmem, ⟨27, _⟩ => ⟨S256x3072, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .smem, ⟨0, _⟩ => ⟨S1, .i32⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22

abbrev nD : Nat := 1
abbrev τ : Topo := Topo.v7x

variable {F : FTy → Type} [FloatOps F]

abbrev grid0 : Pipeline.Grid := ⟨1, ![84], ![false]⟩

def k0_cond2 (i : grid0.Coords) : BitVec 1 :=
  let arg0 : BitVec 32 := BitVec.ofNat 32 (i 0).val
  let c42_i32 : BitVec 32 := 42#32
  let v3 : BitVec 1 := Scalar.cmpi .slt arg0 c42_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v685 : Index := Scalar.indexCast arg0
  let c0_238 : Index := 0#32
  let c0_239 : Index := 0#32
  ![v685.toNat, 0, 0]
def k0_cond4 (i : grid0.Coords) : BitVec 1 :=
  let arg0 : BitVec 32 := BitVec.ofNat 32 (i 0).val
  let c42_i32_4 : BitVec 32 := 42#32
  let v9 : BitVec 1 := Scalar.cmpi .sge arg0 c42_i32_4
  let v10 : BitVec 32 := Scalar.extui v9
  let c0_i32_5 : BitVec 32 := 0#32
  let v11 : BitVec 1 := Scalar.cmpi .ne v10 c0_i32_5
  v11

def k0_off2 (i : grid0.Coords) : Fin 3 → Nat :=
  let c83_i32_7 : BitVec 32 := 83#32
  let arg0 : BitVec 32 := BitVec.ofNat 32 (i 0).val
  let v15 : BitVec 32 := Scalar.subi c83_i32_7 arg0
  let v20 : Index := Scalar.indexCast v15
  let c0_15 : Index := 0#32
  let c0_16 : Index := 0#32
  ![v20.toNat, 0, 0]
def k0_off3 (i : grid0.Coords) : Fin 3 → Nat :=
  let c83_i32_7 : BitVec 32 := 83#32
  let arg0 : BitVec 32 := BitVec.ofNat 32 (i 0).val
  let v15 : BitVec 32 := Scalar.subi c83_i32_7 arg0
  let v62 : Index := Scalar.indexCast v15
  let c0_26 : Index := 0#32
  let c128 : Index := 128#32
  ![v62.toNat, 0, 128]
def k0_off4 (i : grid0.Coords) : Fin 3 → Nat :=
  let c83_i32_7 : BitVec 32 := 83#32
  let arg0 : BitVec 32 := BitVec.ofNat 32 (i 0).val
  let v15 : BitVec 32 := Scalar.subi c83_i32_7 arg0
  let v104 : Index := Scalar.indexCast v15
  let c0_37 : Index := 0#32
  let c256 : Index := 256#32
  ![v104.toNat, 0, 256]
def k0_off5 (i : grid0.Coords) : Fin 3 → Nat :=
  let c83_i32_7 : BitVec 32 := 83#32
  let arg0 : BitVec 32 := BitVec.ofNat 32 (i 0).val
  let v15 : BitVec 32 := Scalar.subi c83_i32_7 arg0
  let v146 : Index := Scalar.indexCast v15
  let c0_48 : Index := 0#32
  let c384 : Index := 384#32
  ![v146.toNat, 0, 384]
def k0_off6 (i : grid0.Coords) : Fin 3 → Nat :=
  let c83_i32_7 : BitVec 32 := 83#32
  let arg0 : BitVec 32 := BitVec.ofNat 32 (i 0).val
  let v15 : BitVec 32 := Scalar.subi c83_i32_7 arg0
  let v188 : Index := Scalar.indexCast v15
  let c0_59 : Index := 0#32
  let c512 : Index := 512#32
  ![v188.toNat, 0, 512]
def k0_off7 (i : grid0.Coords) : Fin 3 → Nat :=
  let c83_i32_7 : BitVec 32 := 83#32
  let arg0 : BitVec 32 := BitVec.ofNat 32 (i 0).val
  let v15 : BitVec 32 := Scalar.subi c83_i32_7 arg0
  let v230 : Index := Scalar.indexCast v15
  let c0_70 : Index := 0#32
  let c640 : Index := 640#32
  ![v230.toNat, 0, 640]
def k0_cond5 (i : grid0.Coords) : BitVec 1 :=
  let arg0 : BitVec 32 := BitVec.ofNat 32 (i 0).val
  let c83_i32 : BitVec 32 := 83#32
  let v12 : BitVec 1 := Scalar.cmpi .eq arg0 c83_i32
  let v13 : BitVec 32 := Scalar.extui v12
  let c0_i32_6 : BitVec 32 := 0#32
  let v14 : BitVec 1 := Scalar.cmpi .ne v13 c0_i32_6
  v14

def k0_cond3 (i : grid0.Coords) : BitVec 1 :=
  let arg0 : BitVec 32 := BitVec.ofNat 32 (i 0).val
  let c42_i32_2 : BitVec 32 := 42#32
  let v6 : BitVec 1 := Scalar.cmpi .eq arg0 c42_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c41_i32 : BitVec 32 := 41#32
  let v0 : BitVec 32 := Scalar.minsi arg0 c41_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c41_i32 : BitVec 32 := 41#32
  let v0 : BitVec 32 := Scalar.minsi arg0 c41_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c41_i32 : BitVec 32 := 41#32
  let v0 : BitVec 32 := Scalar.minsi arg0 c41_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c42_i32 : BitVec 32 := 42#32
  let v0 : BitVec 1 := Scalar.cmpi .slt arg0 c42_i32
  let c83_i32 : BitVec 32 := 83#32
  let v1 : BitVec 32 := Scalar.subi c83_i32 arg0
  let v2 : BitVec 32 := Scalar.select v0 arg0 v1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c42_i32 : BitVec 32 := 42#32
  let v0 : BitVec 1 := Scalar.cmpi .slt arg0 c42_i32
  let c83_i32 : BitVec 32 := 83#32
  let v1 : BitVec 32 := Scalar.subi c83_i32 arg0
  let v2 : BitVec 32 := Scalar.select v0 arg0 v1
  let c0_i32 : BitVec 32 := 0#32
  let c0_i32_0 : BitVec 32 := 0#32
  ![c0_i32.toNat, v2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2560x768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S40x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S40x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x3072 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x3072 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x3072 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "grad_offset" => some (((3 / 4) * (Real.log (3 / 4)) : ℝ) : EReal)
  | "grad_slope" => some (((3 / 4) * (Real.log 2) : ℝ) : EReal)
  | "half_log2e" => some (((2 * (Real.log 2))⁻¹ : ℝ) : EReal)
  | "ln2" => some ((Real.log 2 : ℝ) : EReal)
  | "log2_three_quarters" => some (((Real.log (3 / 4)) * (Real.log 2)⁻¹ : ℝ) : EReal)
  | "log2e" => some (((Real.log 2)⁻¹ : ℝ) : EReal)
  | "log_vocab" => some ((Real.log 32064 : ℝ) : EReal)
  | "neg_inf" => some ⊥
  | _ => none
-- ==== ReferenceIdeal.lean ====
variable {F : FTy → Type} [FloatOps F] [Named F]
def κ : String → Option EReal := fun
  | "log_vocab" => some ((Real.log 32064 : ℝ) : EReal)
  | _ => none
-- ==== Reference.lean ====
abbrev S2x128x3072 : Shape := ⟨3, ![2, 128, 3072]⟩
abbrev S2x128x5120 : Shape := ⟨3, ![2, 128, 5120]⟩
abbrev S3072 : Shape := ⟨1, ![3072]⟩
abbrev S5120 : Shape := ⟨1, ![5120]⟩
abbrev S2560x32064 : Shape := ⟨2, ![2560, 32064]⟩
abbrev S40x32064 : Shape := ⟨2, ![40, 32064]⟩
abbrev S32064x3072 : Shape := ⟨2, ![32064, 3072]⟩
abbrev S32064 : Shape := ⟨1, ![32064]⟩
abbrev S128 : Shape := ⟨1, ![128]⟩
abbrev S1 : Shape := ⟨1, ![1]⟩
abbrev S256x3072 : Shape := ⟨2, ![256, 3072]⟩
abbrev S256x5120 : Shape := ⟨2, ![256, 5120]⟩
abbrev S_ : Shape := ⟨0, ![]⟩
abbrev S128x1 : Shape := ⟨2, ![128, 1]⟩
abbrev S128x5120 : Shape := ⟨2, ![128, 5120]⟩
abbrev S1x5120 : Shape := ⟨2, ![1, 5120]⟩
abbrev S128x3072 : Shape := ⟨2, ![128, 3072]⟩
abbrev S1x3072 : Shape := ⟨2, ![1, 3072]⟩
abbrev S128x2560 : Shape := ⟨2, ![128, 2560]⟩
abbrev S1x32064 : Shape := ⟨2, ![1, 32064]⟩
abbrev S40x64x32064 : Shape := ⟨3, ![40, 64, 32064]⟩
abbrev S40x1x32064 : Shape := ⟨3, ![40, 1, 32064]⟩
abbrev S128x32064 : Shape := ⟨2, ![128, 32064]⟩

abbrev nBuf : Space → Nat
  | .hbm => 100
  | .vmem => 13
  | .smem => 0
  | _ => 0

abbrev bufTy : (tb : Table) → Fin (tcTables nBuf tb) → BufTy
  | .hbm, ⟨0, _⟩ => ⟨S2x128x3072, .bf16⟩
  | .hbm, ⟨1, _⟩ => ⟨S2x128x5120, .bf16⟩
  | .hbm, ⟨2, _⟩ => ⟨S3072, .f32⟩
  | .hbm, ⟨3, _⟩ => ⟨S5120, .f32⟩
  | .hbm, ⟨4, _⟩ => ⟨S2560x32064, .i8⟩
  | .hbm, ⟨5, _⟩ => ⟨S40x32064, .f32⟩
  | .hbm, ⟨6, _⟩ => ⟨S40x32064, .f32⟩
  | .hbm, ⟨7, _⟩ => ⟨S32064x3072, .fp8e4m3⟩
  | .hbm, ⟨8, _⟩ => ⟨S32064, .f32⟩
  | .hbm, ⟨9, _⟩ => ⟨S128, .i32⟩
  | .hbm, ⟨10, _⟩ => ⟨S1, .i32⟩
  | .hbm, ⟨11, _⟩ => ⟨S256x3072, .bf16⟩
  | .hbm, ⟨12, _⟩ => ⟨S256x5120, .bf16⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128x5120, .bf16⟩
  | .hbm, ⟨22, _⟩ => ⟨S128x5120, .f32⟩
  | .hbm, ⟨23, _⟩ => ⟨S128x5120, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x5120, .f32⟩
  | .hbm, ⟨35, _⟩ => ⟨S128x5120, .f32⟩
  | .hbm, ⟨36, _⟩ => ⟨S1x5120, .f32⟩
  | .hbm, ⟨37, _⟩ => ⟨S128x5120, .f32⟩
  | .hbm, ⟨38, _⟩ => ⟨S128x5120, .f32⟩
  | .hbm, ⟨39, _⟩ => ⟨S128x5120, .bf16⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S128x1, .i32⟩
  | .hbm, ⟨48, _⟩ => ⟨S128x3072, .bf16⟩
  | .hbm, ⟨49, _⟩ => ⟨S128x3072, .f32⟩
  | .hbm, ⟨50, _⟩ => ⟨S128x3072, .f32⟩
  | .hbm, ⟨51, _⟩ => ⟨S_, .f32⟩
  | .hbm, ⟨52, _⟩ => ⟨S128, .f32⟩
  | .hbm, ⟨53, _⟩ => ⟨S128x1, .f32⟩
  | .hbm, ⟨54, _⟩ => ⟨S_, .f32⟩
  | .hbm, ⟨55, _⟩ => ⟨S128x1, .f32⟩
  | .hbm, ⟨56, _⟩ => ⟨S128x1, .f32⟩
  | .hbm, ⟨57, _⟩ => ⟨S_, .f32⟩
  | .hbm, ⟨58, _⟩ => ⟨S128x1, .f32⟩
  | .hbm, ⟨59, _⟩ => ⟨S128x1, .f32⟩
  | .hbm, ⟨60, _⟩ => ⟨S128x1, .f32⟩
  | .hbm, ⟨61, _⟩ => ⟨S_, .f32⟩
  | .hbm, ⟨62, _⟩ => ⟨S128x1, .f32⟩
  | .hbm, ⟨63, _⟩ => ⟨S128x1, .f32⟩
  | .hbm, ⟨64, _⟩ => ⟨S128x3072, .f32⟩
  | .hbm, ⟨65, _⟩ => ⟨S128x3072, .f32⟩
  | .hbm, ⟨66, _⟩ => ⟨S1x3072, .f32⟩
  | .hbm, ⟨67, _⟩ => ⟨S128x3072, .f32⟩
  | .hbm, ⟨68, _⟩ => ⟨S128x3072, .f32⟩
  | .hbm, ⟨69, _⟩ => ⟨S128x3072, .f32⟩
  | .hbm, ⟨70, _⟩ => ⟨S_, .f32⟩
  | .hbm, ⟨71, _⟩ => ⟨S128, .f32⟩
  | .hbm, ⟨72, _⟩ => ⟨S128x1, .f32⟩
  | .hbm, ⟨73, _⟩ => ⟨S_, .f32⟩
  | .hbm, ⟨74, _⟩ => ⟨S128x1, .f32⟩
  | .hbm, ⟨75, _⟩ => ⟨S128x1, .i1⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S_, .f32⟩
  | .hbm, ⟨80, _⟩ => ⟨S_, .f32⟩
  | .hbm, ⟨81, _⟩ => ⟨S128x1, .f32⟩
  | .hbm, ⟨82, _⟩ => ⟨S128x1, .f32⟩
  | .hbm, ⟨83, _⟩ => ⟨S128x3072, .f32⟩
  | .hbm, ⟨84, _⟩ => ⟨S128x3072, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S128x3072, .f32⟩
  | .hbm, ⟨89, _⟩ => ⟨S128x3072, .f32⟩
  | .hbm, ⟨90, _⟩ => ⟨S_, .f32⟩
  | .hbm, ⟨91, _⟩ => ⟨S128x3072, .f32⟩
  | .hbm, ⟨92, _⟩ => ⟨S128x3072, .f32⟩
  | .hbm, ⟨93, _⟩ => ⟨S128x2560, .bf16⟩
  | .hbm, ⟨94, _⟩ => ⟨S128x2560, .bf16⟩
  | .hbm, ⟨95, _⟩ => ⟨S1x32064, .f32⟩
  | .hbm, ⟨96, _⟩ => ⟨S128x1, .f32⟩
  | .hbm, ⟨97, _⟩ => ⟨S128x1, .f32⟩
  | .hbm, ⟨98, _⟩ => ⟨S128x3072, .fp8e4m3⟩
  | .hbm, ⟨99, _⟩ => ⟨S128x1, .f32⟩
  | .local _ .vmem, ⟨0, _⟩ => ⟨S128x2560, .bf16⟩
  | .local _ .vmem, ⟨1, _⟩ => ⟨S128x2560, .bf16⟩
  | .local _ .vmem, ⟨2, _⟩ => ⟨S128x3072, .f32⟩
  | .local _ .vmem, ⟨3, _⟩ => ⟨S128x1, .f32⟩
  | .local _ .vmem, ⟨4, _⟩ => ⟨S2560x32064, .i8⟩
  | .local _ .vmem, ⟨5, _⟩ => ⟨S40x32064, .f32⟩
  | .local _ .vmem, ⟨6, _⟩ => ⟨S40x32064, .f32⟩
  | .local _ .vmem, ⟨7, _⟩ => ⟨S32064x3072, .fp8e4m3⟩
  | .local _ .vmem, ⟨8, _⟩ => ⟨S1x32064, .f32⟩
  | .local _ .vmem, ⟨9, _⟩ => ⟨S128x1, .f32⟩
  | .local _ .vmem, ⟨10, _⟩ => ⟨S128x1, .f32⟩
  | .local _ .vmem, ⟨11, _⟩ => ⟨S128x3072, .fp8e4m3⟩
  | .local _ .vmem, ⟨12, _⟩ => ⟨S128x1, .f32⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_call0_v0 : Ref sig .tc := ⟨.hbm, 80, rfl⟩
abbrev main_call0_v1 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_cst_14 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61_0 : Ref sig .tc := ⟨.hbm, 96, rfl⟩
abbrev main_v61_1 : Ref sig .tc := ⟨.hbm, 97, rfl⟩
abbrev main_v61_2 : Ref sig .tc := ⟨.hbm, 98, rfl⟩
abbrev main_v61_3 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S128x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x32064 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x32064 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x32064 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32064x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32064 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x3072 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Hand.Frame.WeakFirst.lean ====
module

public import proofs.«01_k».proof.Proof.Gen.Kernel.Frame
public import proofs.«01_k».proof.Proof.Gen.Kernel.Skeleton
public import Idealize.ShloMosaic.Lib.VecWindow
public import Idealize.ShloMosaic.Lib.Tactic.RunNames

/-! # The body at one grid point, contents forgotten (first) -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 4000000 in
set_option maxRecDepth 100000 in
/-- The body at one grid point, contents forgotten (first) -/
theorem weak_first (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : k0_cond1 i = 1#1) (h2 : k0_cond2 i = 1#1) (h3 : ¬ k0_cond3 i = 1#1) (h4 : ¬ k0_cond4 i = 1#1) (h5 : ¬ k0_cond5 i = 1#1)
    (d2 : Vec F S128x1 .i32) (d3 : Vec F S256x3072 .bf16) (d4 : Vec F S256x5120 .bf16) (d5 : Vec F S1x3072 .f32) (d6 : Vec F S1x5120 .f32) (d7 : Vec F S2560x768 .i8) (d8 : Vec F S40x768 .f32) (d9 : Vec F S40x768 .f32) (d10 : Vec F S768x3072 .fp8e4m3) (d11 : Vec F S1x768 .f32) (d17 : Vec F S128x3072 .fp8e4m3) (d18 : Vec F S128x1 .f32) (d19 : Vec F S42x128x768 .f32) (d20 : Vec F S42x128x768 .f32) (d21 : Vec F S128x5120 .bf16) (d22 : Vec F S128x3072 .f32) (d23 : Vec F S128x1 .f32) (d25 : Vec F S128x128 .f32) (d26 : Vec F S128x128 .f32) (d27 : Vec F S128x128 .f32) (d28 : Vec F S128x128 .f32)  (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg25 fullShare d25 ∗ owns (c : Thread nD τ) arg26 fullShare d26 ∗ owns (c : Thread nD τ) arg27 fullShare d27 ∗ owns (c : Thread nD τ) arg28 fullShare d28 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f25, %hf25, H25⟩, ⟨%f26, %hf26, H26⟩, ⟨%f27, %hf27, H27⟩, ⟨%f28, %hf28, H28⟩, Hk⟩
  subst hf2
  subst hf3
  subst hf4
  subst hf5
  subst hf6
  subst hf7
  subst hf8
  subst hf9
  subst hf10
  subst hf11
  subst hf17
  subst hf18
  subst hf19
  subst hf20
  subst hf21
  subst hf22
  subst hf23
  subst hf25
  subst hf26
  subst hf27
  subst hf28
  sl_exec
  sl_step
  iapply Hk
  isplitl [H2]
  · iexists _; isplitr; swap; iexact H2; ipureintro
    rfl
  isplitl [H3]
  · iexists _; isplitr; swap; iexact H3; ipureintro
    rfl
  isplitl [H4]
  · iexists _; isplitr; swap; iexact H4; ipureintro
    rfl
  isplitl [H5]
  · iexists _; isplitr; swap; iexact H5; ipureintro
    rfl
  isplitl [H6]
  · iexists _; isplitr; swap; iexact H6; ipureintro
    rfl
  isplitl [H7]
  · iexists _; isplitr; swap; iexact H7; ipureintro
    rfl
  isplitl [H8]
  · iexists _; isplitr; swap; iexact H8; ipureintro
    rfl
  isplitl [H9]
  · iexists _; isplitr; swap; iexact H9; ipureintro
    rfl
  isplitl [H10]
  · iexists _; isplitr; swap; iexact H10; ipureintro
    rfl
  isplitl [H11]
  · iexists _; isplitr; swap; iexact H11; ipureintro
    rfl
  isplitl [H17]
  · iexists _; iexists _; isplitr; swap; iexact H17; ipureintro
    rfl
  isplitl [H18]
  · iexists _; iexists _; isplitr; swap; iexact H18; ipureintro
    rfl
  isplitl [H19]
  · iexists _; iexists _; isplitr; swap; iexact H19; ipureintro
    rfl
  isplitl [H20]
  · iexists _; iexists _; isplitr; swap; iexact H20; ipureintro
    rfl
  isplitl [H21]
  · iexists _; iexists _; isplitr; swap; iexact H21; ipureintro
    rfl
  isplitl [H22]
  · iexists _; iexists _; isplitr; swap; iexact H22; ipureintro
    rfl
  isplitl [H23]
  · iexists _; iexists _; isplitr; swap; iexact H23; ipureintro
    rfl
  isplitl [H25]
  · iexists _; iexists _; isplitr; swap; iexact H25; ipureintro
    rfl
  isplitl [H26]
  · iexists _; iexists _; isplitr; swap; iexact H26; ipureintro
    rfl
  isplitl [H27]
  · iexists _; iexists _; isplitr; swap; iexact H27; ipureintro
    rfl
  · iexists _; iexists _; isplitr; swap; iexact H28; ipureintro
    rfl

end Cert.Kernel.Hand
-- ==== Proof.Hand.Frame.WeakLogits.lean ====
module

public import proofs.«01_k».proof.Proof.Gen.Kernel.Frame
public import proofs.«01_k».proof.Proof.Gen.Kernel.Skeleton
public import Idealize.ShloMosaic.Lib.VecWindow
public import Idealize.ShloMosaic.Lib.Tactic.RunNames

/-! # The body at one grid point, contents forgotten (logits) -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 4000000 in
set_option maxRecDepth 100000 in
/-- The body at one grid point, contents forgotten (logits) -/
theorem weak_logits (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : k0_cond2 i = 1#1) (h3 : ¬ k0_cond3 i = 1#1) (h4 : ¬ k0_cond4 i = 1#1) (h5 : ¬ k0_cond5 i = 1#1)
    (d7 : Vec F S2560x768 .i8) (d8 : Vec F S40x768 .f32) (d9 : Vec F S40x768 .f32) (d10 : Vec F S768x3072 .fp8e4m3) (d11 : Vec F S1x768 .f32) (d17 : Vec F S128x3072 .fp8e4m3) (d18 : Vec F S128x1 .f32) (d19 : Vec F S42x128x768 .f32) (d20 : Vec F S42x128x768 .f32) (d21 : Vec F S128x5120 .bf16) (d25 : Vec F S128x128 .f32) (d26 : Vec F S128x128 .f32) (d27 : Vec F S128x128 .f32) (d28 : Vec F S128x128 .f32)  (K : PUnit → sProp 𝕄) :
    iprop(owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg25 fullShare d25 ∗ owns (c : Thread nD τ) arg26 fullShare d26 ∗ owns (c : Thread nD τ) arg27 fullShare d27 ∗ owns (c : Thread nD τ) arg28 fullShare d28 ∗ (iprop(owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ (∃ d, owns (c : Thread nD τ) arg19 fullShare d) ∗ (∃ d, owns (c : Thread nD τ) arg20 fullShare d) ∗ owns (c : Thread nD τ) arg21 fullShare d21 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%f19, %hf19, H19⟩, ⟨%f20, %hf20, H20⟩, ⟨%f21, %hf21, H21⟩, ⟨%f25, %hf25, H25⟩, ⟨%f26, %hf26, H26⟩, ⟨%f27, %hf27, H27⟩, ⟨%f28, %hf28, H28⟩, Hk⟩
  subst hf7
  subst hf8
  subst hf9
  subst hf10
  subst hf11
  subst hf17
  subst hf18
  subst hf19
  subst hf20
  subst hf21
  subst hf25
  subst hf26
  subst hf27
  subst hf28
  sl_exec
  sl_step
  iapply Hk
  isplitl [H7]
  · iexists _; isplitr; swap; iexact H7; ipureintro
    rfl
  isplitl [H8]
  · iexists _; isplitr; swap; iexact H8; ipureintro
    rfl
  isplitl [H9]
  · iexists _; isplitr; swap; iexact H9; ipureintro
    rfl
  isplitl [H10]
  · iexists _; isplitr; swap; iexact H10; ipureintro
    rfl
  isplitl [H11]
  · iexists _; isplitr; swap; iexact H11; ipureintro
    rfl
  isplitl [H17]
  · iexists _; isplitr; swap; iexact H17; ipureintro
    rfl
  isplitl [H18]
  · iexists _; isplitr; swap; iexact H18; ipureintro
    rfl
  isplitl [H19]
  · iexists _; iexists _; isplitr; swap; iexact H19; ipureintro
    rfl
  isplitl [H20]
  · iexists _; iexists _; isplitr; swap; iexact H20; ipureintro
    rfl
  isplitl [H21]
  · iexists _; isplitr; swap; iexact H21; ipureintro
    rfl
  isplitl [H25]
  · iexists _; iexists _; isplitr; swap; iexact H25; ipureintro
    rfl
  isplitl [H26]
  · iexists _; iexists _; isplitr; swap; iexact H26; ipureintro
    rfl
  isplitl [H27]
  · iexists _; iexists _; isplitr; swap; iexact H27; ipureintro
    rfl
  · iexists _; iexists _; isplitr; swap; iexact H28; ipureintro
    rfl

end Cert.Kernel.Hand
-- ==== Proof.Hand.Frame.WeakMid.lean ====
module

public import proofs.«01_k».proof.Proof.Gen.Kernel.Frame
public import proofs.«01_k».proof.Proof.Gen.Kernel.Skeleton
public import Idealize.ShloMosaic.Lib.VecWindow
public import Idealize.ShloMosaic.Lib.Tactic.RunNames

/-! # The body at one grid point, contents forgotten (mid) -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 4000000 in
set_option maxRecDepth 100000 in
/-- The body at one grid point, contents forgotten (mid) -/
theorem weak_mid (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : ¬ k0_cond2 i = 1#1) (h3 : k0_cond3 i = 1#1) (h4 : k0_cond4 i = 1#1) (h5 : ¬ k0_cond5 i = 1#1)
    (d10 : Vec F S768x3072 .fp8e4m3) (d11 : Vec F S1x768 .f32) (d13 : Vec F S128x1 .f32) (d14 : Vec F S128x1 .f32) (d19 : Vec F S42x128x768 .f32) (d20 : Vec F S42x128x768 .f32) (d24 : Vec F S256x3072 .f32) (d25 : Vec F S128x128 .f32) (d26 : Vec F S128x128 .f32) (d27 : Vec F S128x128 .f32) (d28 : Vec F S128x128 .f32) (d29 : Vec F S128x128 .f32) (d30 : Vec F S128x128 .f32)  (K : PUnit → sProp 𝕄) :
    iprop(owns (c : Thread nD τ) arg10 fullShare d10 ∗ owns (c : Thread nD τ) arg11 fullShare d11 ∗ owns (c : Thread nD τ) arg13 fullShare d13 ∗ owns (c : Thread nD τ) arg14 fullShare d14 ∗ owns (c : Thread nD τ) arg19 fullShare d19 ∗ owns (c : Thread nD τ) arg20 fullShare d20 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ owns (c : Thread nD τ) arg30 fullShare d30 ∗ (iprop(owns (c : Thread nD τ) arg10 fullShare d10 ∗ owns (c : Thread nD τ) arg11 fullShare d11 ∗ (∃ d, owns (c : Thread nD τ) arg13 fullShare d) ∗ (∃ d, owns (c : Thread nD τ) arg14 fullShare d) ∗ owns (c : Thread nD τ) arg19 fullShare d19 ∗ owns (c : Thread nD τ) arg20 fullShare d20 ∗ (∃ d, owns (c : Thread nD τ) arg24 fullShare d) ∗ (∃ d, owns (c : Thread nD τ) arg25 fullShare d) ∗ owns (c : Thread nD τ) arg26 fullShare d26 ∗ (∃ d, owns (c : Thread nD τ) arg27 fullShare d) ∗ owns (c : Thread nD τ) arg28 fullShare d28 ∗ (∃ d, owns (c : Thread nD τ) arg29 fullShare d) ∗ (∃ d, owns (c : Thread nD τ) arg30 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f10, %hf10, H10⟩, ⟨%f11, %hf11, H11⟩, ⟨%f13, %hf13, H13⟩, ⟨%f14, %hf14, H14⟩, ⟨%f19, %hf19, H19⟩, ⟨%f20, %hf20, H20⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
  subst hf10
  subst hf11
  subst hf13
  subst hf14
  subst hf19
  subst hf20
  subst hf24
  subst hf25
  subst hf26
  subst hf27
  subst hf28
  subst hf29
  subst hf30
  sl_exec
  sl_step
  iapply Hk
  isplitl [H10]
  · iexists _; isplitr; swap; iexact H10; ipureintro
    rfl
  isplitl [H11]
  · iexists _; isplitr; swap; iexact H11; ipureintro
    rfl
  isplitl [H13]
  · iexists _; iexists _; isplitr; swap; iexact H13; ipureintro
    rfl
  isplitl [H14]
  · iexists _; iexists _; isplitr; swap; iexact H14; ipureintro
    rfl
  isplitl [H19]
  · iexists _; isplitr; swap; iexact H19; ipureintro
    rfl
  isplitl [H20]
  · iexists _; isplitr; swap; iexact H20; ipureintro
    rfl
  isplitl [H24]
  · iexists _; iexists _; isplitr; swap; iexact H24; ipureintro
    rfl
  isplitl [H25]
  · iexists _; iexists _; isplitr; swap; iexact H25; ipureintro
    rfl
  isplitl [H26]
  · iexists _; isplitr; swap; iexact H26; ipureintro
    rfl
  isplitl [H27]
  · iexists _; iexists _; isplitr; swap; iexact H27; ipureintro
    rfl
  isplitl [H28]
  · iexists _; isplitr; swap; iexact H28; ipureintro
    rfl
  isplitl [H29]
  · iexists _; iexists _; isplitr; swap; iexact H29; ipureintro
    rfl
  · iexists _; iexists _; isplitr; swap; iexact H30; ipureintro
    rfl

end Cert.Kernel.Hand
-- ==== Proof.Hand.Frame.WeakGrad.lean ====
module

public import proofs.«01_k».proof.Proof.Gen.Kernel.Frame
public import proofs.«01_k».proof.Proof.Gen.Kernel.Skeleton
public import Idealize.ShloMosaic.Lib.VecWindow
public import Idealize.ShloMosaic.Lib.Tactic.RunNames

/-! # The body at one grid point, contents forgotten (grad) -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 4000000 in
set_option maxRecDepth 100000 in
/-- The body at one grid point, contents forgotten (grad) -/
theorem weak_grad (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : ¬ k0_cond2 i = 1#1) (h3 : ¬ k0_cond3 i = 1#1) (h4 : k0_cond4 i = 1#1) (h5 : ¬ k0_cond5 i = 1#1)
    (d10 : Vec F S768x3072 .fp8e4m3) (d11 : Vec F S1x768 .f32) (d19 : Vec F S42x128x768 .f32) (d20 : Vec F S42x128x768 .f32) (d24 : Vec F S256x3072 .f32) (d25 : Vec F S128x128 .f32) (d27 : Vec F S128x128 .f32) (d29 : Vec F S128x128 .f32) (d30 : Vec F S128x128 .f32)  (K : PUnit → sProp 𝕄) :
    iprop(owns (c : Thread nD τ) arg10 fullShare d10 ∗ owns (c : Thread nD τ) arg11 fullShare d11 ∗ owns (c : Thread nD τ) arg19 fullShare d19 ∗ owns (c : Thread nD τ) arg20 fullShare d20 ∗ owns (c : Thread nD τ) arg24 fullShare d24 ∗ owns (c : Thread nD τ) arg25 fullShare d25 ∗ owns (c : Thread nD τ) arg27 fullShare d27 ∗ owns (c : Thread nD τ) arg29 fullShare d29 ∗ owns (c : Thread nD τ) arg30 fullShare d30 ∗ (iprop(owns (c : Thread nD τ) arg10 fullShare d10 ∗ owns (c : Thread nD τ) arg11 fullShare d11 ∗ owns (c : Thread nD τ) arg19 fullShare d19 ∗ owns (c : Thread nD τ) arg20 fullShare d20 ∗ (∃ d, owns (c : Thread nD τ) arg24 fullShare d) ∗ owns (c : Thread nD τ) arg25 fullShare d25 ∗ owns (c : Thread nD τ) arg27 fullShare d27 ∗ (∃ d, owns (c : Thread nD τ) arg29 fullShare d) ∗ (∃ d, owns (c : Thread nD τ) arg30 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f10, %hf10, H10⟩, ⟨%f11, %hf11, H11⟩, ⟨%f19, %hf19, H19⟩, ⟨%f20, %hf20, H20⟩, ⟨%f24, %hf24, H24⟩, ⟨%f25, %hf25, H25⟩, ⟨%f27, %hf27, H27⟩, ⟨%f29, %hf29, H29⟩, ⟨%f30, %hf30, H30⟩, Hk⟩
  subst hf10
  subst hf11
  subst hf19
  subst hf20
  subst hf24
  subst hf25
  subst hf27
  subst hf29
  subst hf30
  sl_exec
  sl_step
  iapply Hk
  isplitl [H10]
  · iexists _; isplitr; swap; iexact H10; ipureintro
    rfl
  isplitl [H11]
  · iexists _; isplitr; swap; iexact H11; ipureintro
    rfl
  isplitl [H19]
  · iexists _; isplitr; swap; iexact H19; ipureintro
    rfl
  isplitl [H20]
  · iexists _; isplitr; swap; iexact H20; ipureintro
    rfl
  isplitl [H24]
  · iexists _; iexists _; isplitr; swap; iexact H24; ipureintro
    rfl
  isplitl [H25]
  · iexists _; isplitr; swap; iexact H25; ipureintro
    rfl
  isplitl [H27]
  · iexists _; isplitr; swap; iexact H27; ipureintro
    rfl
  isplitl [H29]
  · iexists _; iexists _; isplitr; swap; iexact H29; ipureintro
    rfl
  · iexists _; iexists _; isplitr; swap; iexact H30; ipureintro
    rfl

end Cert.Kernel.Hand
-- ==== Proof.Hand.Frame.WeakLast.lean ====
module

public import proofs.«01_k».proof.Proof.Gen.Kernel.Frame
public import proofs.«01_k».proof.Proof.Gen.Kernel.Skeleton
public import Idealize.ShloMosaic.Lib.VecWindow
public import Idealize.ShloMosaic.Lib.Tactic.RunNames

/-! # The body at one grid point, contents forgotten (last) -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 4000000 in
set_option maxRecDepth 100000 in
/-- The body at one grid point, contents forgotten (last) -/
theorem weak_last (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : ¬ k0_cond2 i = 1#1) (h3 : ¬ k0_cond3 i = 1#1) (h4 : k0_cond4 i = 1#1) (h5 : k0_cond5 i = 1#1)
    (d1 : Vec F S1 .i32) (d5 : Vec F S1x3072 .f32) (d10 : Vec F S768x3072 .fp8e4m3) (d11 : Vec F S1x768 .f32) (d12 : Vec F S128x1 .f32) (d15 : Vec F S128x3072 .bf16) (d16 : Vec F S128x3072 .f32) (d19 : Vec F S42x128x768 .f32) (d20 : Vec F S42x128x768 .f32) (d22 : Vec F S128x3072 .f32) (d23 : Vec F S128x1 .f32) (d24 : Vec F S256x3072 .f32) (d25 : Vec F S128x128 .f32) (d27 : Vec F S128x128 .f32) (d29 : Vec F S128x128 .f32) (d30 : Vec F S128x128 .f32)  (K : PUnit → sProp 𝕄) :
    iprop(owns (c : Thread nD τ) arg1 fullShare d1 ∗ owns (c : Thread nD τ) arg5 fullShare d5 ∗ owns (c : Thread nD τ) arg10 fullShare d10 ∗ owns (c : Thread nD τ) arg11 fullShare d11 ∗ owns (c : Thread nD τ) arg12 fullShare d12 ∗ owns (c : Thread nD τ) arg15 fullShare d15 ∗ owns (c : Thread nD τ) arg16 fullShare d16 ∗ owns (c : Thread nD τ) arg19 fullShare d19 ∗ owns (c : Thread nD τ) arg20 fullShare d20 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg27 fullShare d27 ∗ owns (c : Thread nD τ) arg29 fullShare d29 ∗ owns (c : Thread nD τ) arg30 fullShare d30 ∗ (iprop(owns (c : Thread nD τ) arg1 fullShare d1 ∗ owns (c : Thread nD τ) arg5 fullShare d5 ∗ owns (c : Thread nD τ) arg10 fullShare d10 ∗ owns (c : Thread nD τ) arg11 fullShare d11 ∗ (∃ d, owns (c : Thread nD τ) arg12 fullShare d) ∗ (∃ d, owns (c : Thread nD τ) arg15 fullShare d) ∗ (∃ d, owns (c : Thread nD τ) arg16 fullShare d) ∗ owns (c : Thread nD τ) arg19 fullShare d19 ∗ owns (c : Thread nD τ) arg20 fullShare d20 ∗ owns (c : Thread nD τ) arg22 fullShare d22 ∗ owns (c : Thread nD τ) arg23 fullShare d23 ∗ (∃ d, owns (c : Thread nD τ) arg24 fullShare d) ∗ owns (c : Thread nD τ) arg25 fullShare d25 ∗ owns (c : Thread nD τ) arg27 fullShare d27 ∗ (∃ d, owns (c : Thread nD τ) arg29 fullShare d) ∗ (∃ d, owns (c : Thread nD τ) arg30 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f1, %hf1, H1⟩, ⟨%f5, %hf5, H5⟩, ⟨%f10, %hf10, H10⟩, ⟨%f11, %hf11, H11⟩, ⟨%f12, %hf12, H12⟩, ⟨%f15, %hf15, H15⟩, ⟨%f16, %hf16, H16⟩, ⟨%f19, %hf19, H19⟩, ⟨%f20, %hf20, H20⟩, ⟨%f22, %hf22, H22⟩, ⟨%f23, %hf23, H23⟩, ⟨%f24, %hf24, H24⟩, ⟨%f25, %hf25, H25⟩, ⟨%f27, %hf27, H27⟩, ⟨%f29, %hf29, H29⟩, ⟨%f30, %hf30, H30⟩, Hk⟩
  subst hf1
  subst hf5
  subst hf10
  subst hf11
  subst hf12
  subst hf15
  subst hf16
  subst hf19
  subst hf20
  subst hf22
  subst hf23
  subst hf24
  subst hf25
  subst hf27
  subst hf29
  subst hf30
  sl_exec
  sl_step
  iapply Hk
  isplitl [H1]
  · iexists _; isplitr; swap; iexact H1; ipureintro
    rfl
  isplitl [H5]
  · iexists _; isplitr; swap; iexact H5; ipureintro
    rfl
  isplitl [H10]
  · iexists _; isplitr; swap; iexact H10; ipureintro
    rfl
  isplitl [H11]
  · iexists _; isplitr; swap; iexact H11; ipureintro
    rfl
  isplitl [H12]
  · iexists _; iexists _; isplitr; swap; iexact H12; ipureintro
    rfl
  isplitl [H15]
  · iexists _; iexists _; isplitr; swap; iexact H15; ipureintro
    rfl
  isplitl [H16]
  · iexists _; iexists _; isplitr; swap; iexact H16; ipureintro
    rfl
  isplitl [H19]
  · iexists _; isplitr; swap; iexact H19; ipureintro
    rfl
  isplitl [H20]
  · iexists _; isplitr; swap; iexact H20; ipureintro
    rfl
  isplitl [H22]
  · iexists _; isplitr; swap; iexact H22; ipureintro
    rfl
  isplitl [H23]
  · iexists _; isplitr; swap; iexact H23; ipureintro
    rfl
  isplitl [H24]
  · iexists _; iexists _; isplitr; swap; iexact H24; ipureintro
    rfl
  isplitl [H25]
  · iexists _; isplitr; swap; iexact H25; ipureintro
    rfl
  isplitl [H27]
  · iexists _; isplitr; swap; iexact H27; ipureintro
    rfl
  isplitl [H29]
  · iexists _; iexists _; isplitr; swap; iexact H29; ipureintro
    rfl
  · iexists _; iexists _; isplitr; swap; iexact H30; ipureintro
    rfl

end Cert.Kernel.Hand
-- ==== Proof.Hand.Frame.Run.lean ====
module

public import proofs.«01_k».proof.Proof.Hand.Frame.WeakFirst
public import proofs.«01_k».proof.Proof.Hand.Frame.WeakLogits
public import proofs.«01_k».proof.Proof.Hand.Frame.WeakMid
public import proofs.«01_k».proof.Proof.Hand.Frame.WeakGrad
public import proofs.«01_k».proof.Proof.Hand.Frame.WeakLast

/-! # The kernel runs, leaves its arguments alone and its counters at zero -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Between grid points the twelve scratch buffers hold something. -/
def ScratchAny (c : Dev nD) : sProp 𝕄 :=
  iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f) ∗ (∃ f, owns (c : Thread nD τ) (Memref.whole cc0_scratch5) fullShare f) ∗ (∃ f, owns (c : Thread nD τ) (Memref.whole cc0_scratch6) fullShare f) ∗ (∃ f, owns (c : Thread nD τ) (Memref.whole cc0_scratch7) fullShare f) ∗ (∃ f, owns (c : Thread nD τ) (Memref.whole cc0_scratch8) fullShare f) ∗ (∃ f, owns (c : Thread nD τ) (Memref.whole cc0_scratch9) fullShare f) ∗ (∃ f, owns (c : Thread nD τ) (Memref.whole cc0_scratch10) fullShare f) ∗ (∃ f, owns (c : Thread nD τ) (Memref.whole cc0_scratch11) fullShare f)) ∗ ∃ r, prngReg c r)

/-- The body may leave anything in an output's buffer; an input's it leaves as it found it. -/
def rdat (c : Dev nD) : RDat τ (Elt F) Unit ℕ (UR sig nD τ) ℕ cfg0 c where
  A w := V m c (Pipeline.arrRef spec0 w)
  after w _ Y X := w.val < 11 → X = Y
  Φ _ := ScratchAny c
  q _ := fullShare
  owed _ := 0

/-- Which of the five conditions hold at a point. -/
theorem cond1_iff : ∀ t : Fin cfg0.N, k0_cond1 (grid0.coords t) = 1#1 ↔ t.val = 0 := by decide +kernel
theorem cond2_iff : ∀ t : Fin cfg0.N, k0_cond2 (grid0.coords t) = 1#1 ↔ t.val < 42 := by decide +kernel
theorem cond3_iff : ∀ t : Fin cfg0.N, k0_cond3 (grid0.coords t) = 1#1 ↔ t.val = 42 := by decide +kernel
theorem cond4_iff : ∀ t : Fin cfg0.N, k0_cond4 (grid0.coords t) = 1#1 ↔ 42 ≤ t.val := by decide +kernel
theorem cond5_iff : ∀ t : Fin cfg0.N, k0_cond5 (grid0.coords t) = 1#1 ↔ t.val = 83 := by decide +kernel

/-- What the body is handed at a point, and what it hands back. -/
def bodyPre (c : Dev nD) (t : Fin cfg0.N) (Y : (w : Fin cfg0.W) → (cfg0.win w).block.Idx → Elt F (cfg0.win w).elt) : sProp 𝕄 :=
  iprop(ScratchAny c ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17))

def bodyPost (c : Dev nD) (t : Fin cfg0.N) (Y : (w : Fin cfg0.W) → (cfg0.win w).block.Idx → Elt F (cfg0.win w).elt) : sProp 𝕄 :=
  iprop(ScratchAny c ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X) ∗ (∃ X, ⌜(rdat m c).after 11 t (Y 11) X⌝ ∗ owns (c : Thread nD τ) (st0_11 t) fullShare X) ∗ (∃ X, ⌜(rdat m c).after 12 t (Y 12) X⌝ ∗ owns (c : Thread nD τ) (st0_12 t) fullShare X) ∗ (∃ X, ⌜(rdat m c).after 13 t (Y 13) X⌝ ∗ owns (c : Thread nD τ) (st0_13 t) fullShare X) ∗ (∃ X, ⌜(rdat m c).after 14 t (Y 14) X⌝ ∗ owns (c : Thread nD τ) (st0_14 t) fullShare X) ∗ (∃ X, ⌜(rdat m c).after 15 t (Y 15) X⌝ ∗ owns (c : Thread nD τ) (st0_15 t) fullShare X) ∗ (∃ X, ⌜(rdat m c).after 16 t (Y 16) X⌝ ∗ owns (c : Thread nD τ) (st0_16 t) fullShare X) ∗ (∃ X, ⌜(rdat m c).after 17 t (Y 17) X⌝ ∗ owns (c : Thread nD τ) (st0_17 t) fullShare X))

/-- The body at the points with t.val = 0. -/
theorem body_first (c : Dev nD) (t : Fin cfg0.N) (ht : t.val = 0) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : k0_cond1 (grid0.coords t) = 1#1 := (cond1_iff t).mpr (by omega)
  have h2 : k0_cond2 (grid0.coords t) = 1#1 := (cond2_iff t).mpr (by omega)
  have h3 : ¬ k0_cond3 (grid0.coords t) = 1#1 := fun h => absurd ((cond3_iff t).mp h) (by omega)
  have h4 : ¬ k0_cond4 (grid0.coords t) = 1#1 := fun h => absurd ((cond4_iff t).mp h) (by omega)
  have h5 : ¬ k0_cond5 (grid0.coords t) = 1#1 := fun h => absurd ((cond5_iff t).mp h) (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_first c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 1) (Y 2) (Y 3) (Y 4) (Y 5) (Y 6) (Y 7) (Y 8) (Y 9) (Y 10) (Y 16) (Y 17) e19 e20 e21 e22 e23 e25 e26 e27 e28 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H25]; · iexact H25
  isplitl [H26]; · iexact H26
  isplitl [H27]; · iexact H27
  isplitl [H28]; · iexact H28
  iintro ⟨H2, H3, H4, H5, H6, H7, H8, H9, H10, H11, ⟨%g17, H17⟩, ⟨%g18, H18⟩, ⟨%g19, H19⟩, ⟨%g20, H20⟩, ⟨%g21, H21⟩, ⟨%g22, H22⟩, ⟨%g23, H23⟩, ⟨%g25, H25⟩, ⟨%g26, H26⟩, ⟨%g27, H27⟩, ⟨%g28, H28⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

/-- The body at the points with 0 < t.val ∧ t.val < 42. -/
theorem body_logits (c : Dev nD) (t : Fin cfg0.N) (ht : 0 < t.val ∧ t.val < 42) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : ¬ k0_cond1 (grid0.coords t) = 1#1 := fun h => absurd ((cond1_iff t).mp h) (by omega)
  have h2 : k0_cond2 (grid0.coords t) = 1#1 := (cond2_iff t).mpr (by omega)
  have h3 : ¬ k0_cond3 (grid0.coords t) = 1#1 := fun h => absurd ((cond3_iff t).mp h) (by omega)
  have h4 : ¬ k0_cond4 (grid0.coords t) = 1#1 := fun h => absurd ((cond4_iff t).mp h) (by omega)
  have h5 : ¬ k0_cond5 (grid0.coords t) = 1#1 := fun h => absurd ((cond5_iff t).mp h) (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_logits c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 6) (Y 7) (Y 8) (Y 9) (Y 10) (Y 16) (Y 17) e19 e20 e21 e25 e26 e27 e28 _)
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H19]; · iexact H19
  isplitl [H20]; · iexact H20
  isplitl [H21]; · iexact H21
  isplitl [H25]; · iexact H25
  isplitl [H26]; · iexact H26
  isplitl [H27]; · iexact H27
  isplitl [H28]; · iexact H28
  iintro ⟨H7, H8, H9, H10, H11, H17, H18, ⟨%g19, H19⟩, ⟨%g20, H20⟩, H21, ⟨%g25, H25⟩, ⟨%g26, H26⟩, ⟨%g27, H27⟩, ⟨%g28, H28⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

/-- The body at the points with t.val = 42. -/
theorem body_mid (c : Dev nD) (t : Fin cfg0.N) (ht : t.val = 42) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : ¬ k0_cond1 (grid0.coords t) = 1#1 := fun h => absurd ((cond1_iff t).mp h) (by omega)
  have h2 : ¬ k0_cond2 (grid0.coords t) = 1#1 := fun h => absurd ((cond2_iff t).mp h) (by omega)
  have h3 : k0_cond3 (grid0.coords t) = 1#1 := (cond3_iff t).mpr (by omega)
  have h4 : k0_cond4 (grid0.coords t) = 1#1 := (cond4_iff t).mpr (by omega)
  have h5 : ¬ k0_cond5 (grid0.coords t) = 1#1 := fun h => absurd ((cond5_iff t).mp h) (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_mid c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 9) (Y 10) (Y 12) (Y 13) e19 e20 e24 e25 e26 e27 e28 e29 e30 _)
  isplitl [H10]; · iexact H10
  isplitl [H11]; · iexact H11
  isplitl [H13]; · iexact H13
  isplitl [H14]; · iexact H14
  isplitl [H19]; · iexact H19
  isplitl [H20]; · iexact H20
  isplitl [H24]; · iexact H24
  isplitl [H25]; · iexact H25
  isplitl [H26]; · iexact H26
  isplitl [H27]; · iexact H27
  isplitl [H28]; · iexact H28
  isplitl [H29]; · iexact H29
  isplitl [H30]; · iexact H30
  iintro ⟨H10, H11, ⟨%g13, H13⟩, ⟨%g14, H14⟩, H19, H20, ⟨%g24, H24⟩, ⟨%g25, H25⟩, H26, ⟨%g27, H27⟩, H28, ⟨%g29, H29⟩, ⟨%g30, H30⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

/-- The body at the points with 42 < t.val ∧ t.val < 83. -/
theorem body_grad (c : Dev nD) (t : Fin cfg0.N) (ht : 42 < t.val ∧ t.val < 83) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : ¬ k0_cond1 (grid0.coords t) = 1#1 := fun h => absurd ((cond1_iff t).mp h) (by omega)
  have h2 : ¬ k0_cond2 (grid0.coords t) = 1#1 := fun h => absurd ((cond2_iff t).mp h) (by omega)
  have h3 : ¬ k0_cond3 (grid0.coords t) = 1#1 := fun h => absurd ((cond3_iff t).mp h) (by omega)
  have h4 : k0_cond4 (grid0.coords t) = 1#1 := (cond4_iff t).mpr (by omega)
  have h5 : ¬ k0_cond5 (grid0.coords t) = 1#1 := fun h => absurd ((cond5_iff t).mp h) (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_grad c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 9) (Y 10) e19 e20 e24 e25 e27 e29 e30 _)
  isplitl [H10]; · iexact H10
  isplitl [H11]; · iexact H11
  isplitl [H19]; · iexact H19
  isplitl [H20]; · iexact H20
  isplitl [H24]; · iexact H24
  isplitl [H25]; · iexact H25
  isplitl [H27]; · iexact H27
  isplitl [H29]; · iexact H29
  isplitl [H30]; · iexact H30
  iintro ⟨H10, H11, H19, H20, ⟨%g24, H24⟩, H25, H27, ⟨%g29, H29⟩, ⟨%g30, H30⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

/-- The body at the points with t.val = 83. -/
theorem body_last (c : Dev nD) (t : Fin cfg0.N) (ht : t.val = 83) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : ¬ k0_cond1 (grid0.coords t) = 1#1 := fun h => absurd ((cond1_iff t).mp h) (by omega)
  have h2 : ¬ k0_cond2 (grid0.coords t) = 1#1 := fun h => absurd ((cond2_iff t).mp h) (by omega)
  have h3 : ¬ k0_cond3 (grid0.coords t) = 1#1 := fun h => absurd ((cond3_iff t).mp h) (by omega)
  have h4 : k0_cond4 (grid0.coords t) = 1#1 := (cond4_iff t).mpr (by omega)
  have h5 : k0_cond5 (grid0.coords t) = 1#1 := (cond5_iff t).mpr (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_last c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 0) (Y 4) (Y 9) (Y 10) (Y 11) (Y 14) (Y 15) e19 e20 e22 e23 e24 e25 e27 e29 e30 _)
  isplitl [H1]; · iexact H1
  isplitl [H5]; · iexact H5
  isplitl [H10]; · iexact H10
  isplitl [H11]; · iexact H11
  isplitl [H12]; · iexact H12
  isplitl [H15]; · iexact H15
  isplitl [H16]; · iexact H16
  isplitl [H19]; · iexact H19
  isplitl [H20]; · iexact H20
  isplitl [H22]; · iexact H22
  isplitl [H23]; · iexact H23
  isplitl [H24]; · iexact H24
  isplitl [H25]; · iexact H25
  isplitl [H27]; · iexact H27
  isplitl [H29]; · iexact H29
  isplitl [H30]; · iexact H30
  iintro ⟨H1, H5, H10, H11, ⟨%g12, H12⟩, ⟨%g15, H15⟩, ⟨%g16, H16⟩, H19, H20, H22, H23, ⟨%g24, H24⟩, H25, H27, ⟨%g29, H29⟩, ⟨%g30, H30⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

theorem defs₀_row (t : Fin cfg0.N) :
    defs₀ (F := F) .tc cfg0.body (cfg0.bodyArgs t (cfg0.slots t)) = bodyAt0 t := by
  unfold defs₀; rw [Defs.onTc_tc]

/-- The body at any point. -/
theorem body_any (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have hN : t.val < 84 := t.isLt
  rcases Nat.lt_trichotomy t.val 42 with h | h | h
  · rcases Nat.eq_zero_or_pos t.val with h0 | h0
    · exact body_first m c t h0 Y
    · exact body_logits m c t ⟨h0, h⟩ Y
  · exact body_mid m c t h Y
  · rcases Nat.lt_or_ge t.val 83 with h0 | h0
    · exact body_grad m c t ⟨h, h0⟩ Y
    · exact body_last m c t (by omega) Y

theorem body_obligation (c : Dev nD) : (rdat m c).BodyObligation (defs₀ (F := F)) Variants.none () Set.univ := fun t Y _ => by
  rw [bigSep_W0, bigSep_W0, defs₀_row]
  exact body_any m c t Y

theorem scratch_in (c : Dev nD) : (Pipeline.ΦA spec0 c : sProp 𝕄) ⊢ ScratchAny c := by
  unfold Pipeline.ΦA ScratchAny
  rw [scopedRest0_eq]
  simp only [owns_whole]
  exact .rfl

theorem scratch_out (c : Dev nD) : (ScratchAny c : sProp 𝕄) ⊢ Pipeline.ΦA spec0 c := by
  unfold Pipeline.ΦA ScratchAny
  rw [scopedRest0_eq]
  simp only [owns_whole]
  exact .rfl

set_option backward.isDefEq.respectTransparency.types false in
/-- Every fair execution ends, with the arrays as the relation allows and every counter at zero. -/
theorem run_frame : θ_run defs (onTc (τ := τ) (main (F := F))) (s₀ m ρ)
    (fun r => RDat.FramePost cfg0 (rdat m) (V m) r ∧ r.2.sem = fun _ => 0) :=
  RDat.θ_run_frame_track cfgs 0 launch0 defs₀ Variants.none (rdat m) m ρ main (body_obligation m)
    (fun c w => by unfold RDat.share rdat; split <;> rfl) (fun _ _ => rfl) (V m) (hmain m Variants.none) (fun _ _ => rfl)
    scratch_in scratch_out _ (fun _ h => h)

/-- An input window's array ends as it began. -/
theorem arr_in {r : PUnit × MemSt nD τ sig (Elt F)} (h : RDat.FramePost cfg0 (rdat m) (V m) r) (c : Dev nD) (w : Fin cfg0.W)
    (hin : (cfg0.win w).isOut = false) :
    r.2.mem ((cfg0.spec w).arr.view.loc (c.tc : Thread nD τ)) = V m c (Pipeline.arrRef spec0 w) := by
  have h1 := (h c).1 w
  rw [(rdat m c).ArrAt_in w hin] at h1
  exact h1

/-- The run with the arguments unchanged. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ r => ⟨fun c => ⟨((r.1 c).2 main_arg0 (Pipeline.mem_restRefs_of main_arg0 (by decide) (by decide))).trans (V_main_arg0 m c),
    ((r.1 c).2 main_arg1 (Pipeline.mem_restRefs_of main_arg1 (by decide) (by decide))).trans (V_main_arg1 m c),
    ((r.1 c).2 main_arg2 (Pipeline.mem_restRefs_of main_arg2 (by decide) (by decide))).trans (V_main_arg2 m c),
    ((r.1 c).2 main_arg3 (Pipeline.mem_restRefs_of main_arg3 (by decide) (by decide))).trans (V_main_arg3 m c),
    (arr_in m r.1 c 6 rfl).trans (V_main_arg4 m c),
    (arr_in m r.1 c 7 rfl).trans (V_main_arg5 m c),
    (arr_in m r.1 c 8 rfl).trans (V_main_arg6 m c),
    (arr_in m r.1 c 9 rfl).trans (V_main_arg7 m c),
    ((r.1 c).2 main_arg8 (Pipeline.mem_restRefs_of main_arg8 (by decide) (by decide))).trans (V_main_arg8 m c),
    ((r.1 c).2 main_arg9 (Pipeline.mem_restRefs_of main_arg9 (by decide) (by decide))).trans (V_main_arg9 m c),
    (arr_in m r.1 c 0 rfl).trans (V_main_arg10 m c)⟩, r.2⟩) (run_frame m ρ)

end Cert.Kernel.Hand

end
-- ==== Proof.Hand.FrameIdeal.WeakFirst.lean ====
module

public import proofs.«01_k».proof.Proof.Gen.KernelIdeal.Frame
public import proofs.«01_k».proof.Proof.Gen.KernelIdeal.Skeleton
public import Idealize.ShloMosaic.Lib.VecWindow
public import Idealize.ShloMosaic.Lib.Tactic.RunNames

/-! # The body at one grid point, contents forgotten (first) -/

@[expose] public section

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 4000000 in
set_option maxRecDepth 100000 in
/-- The body at one grid point, contents forgotten (first) -/
theorem weak_first (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : k0_cond1 i = 1#1) (h2 : k0_cond2 i = 1#1) (h3 : ¬ k0_cond3 i = 1#1) (h4 : ¬ k0_cond4 i = 1#1) (h5 : ¬ k0_cond5 i = 1#1)
    (d2 : Vec F S128x1 .i32) (d3 : Vec F S256x3072 .bf16) (d4 : Vec F S256x5120 .bf16) (d5 : Vec F S1x3072 .f32) (d6 : Vec F S1x5120 .f32) (d7 : Vec F S2560x768 .i8) (d8 : Vec F S40x768 .f32) (d9 : Vec F S40x768 .f32) (d10 : Vec F S768x3072 .fp8e4m3) (d11 : Vec F S1x768 .f32) (d17 : Vec F S128x3072 .fp8e4m3) (d18 : Vec F S128x1 .f32) (d19 : Vec F S42x128x768 .f32) (d20 : Vec F S42x128x768 .f32) (d21 : Vec F S128x5120 .bf16) (d22 : Vec F S128x3072 .f32) (d23 : Vec F S128x1 .f32) (d25 : Vec F S128x128 .f32) (d26 : Vec F S128x128 .f32) (d27 : Vec F S128x128 .f32) (d28 : Vec F S128x128 .f32)  (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg25 fullShare d25 ∗ owns (c : Thread nD τ) arg26 fullShare d26 ∗ owns (c : Thread nD τ) arg27 fullShare d27 ∗ owns (c : Thread nD τ) arg28 fullShare d28 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f25, %hf25, H25⟩, ⟨%f26, %hf26, H26⟩, ⟨%f27, %hf27, H27⟩, ⟨%f28, %hf28, H28⟩, Hk⟩
  subst hf2
  subst hf3
  subst hf4
  subst hf5
  subst hf6
  subst hf7
  subst hf8
  subst hf9
  subst hf10
  subst hf11
  subst hf17
  subst hf18
  subst hf19
  subst hf20
  subst hf21
  subst hf22
  subst hf23
  subst hf25
  subst hf26
  subst hf27
  subst hf28
  sl_exec
  sl_step
  iapply Hk
  isplitl [H2]
  · iexists _; isplitr; swap; iexact H2; ipureintro
    rfl
  isplitl [H3]
  · iexists _; isplitr; swap; iexact H3; ipureintro
    rfl
  isplitl [H4]
  · iexists _; isplitr; swap; iexact H4; ipureintro
    rfl
  isplitl [H5]
  · iexists _; isplitr; swap; iexact H5; ipureintro
    rfl
  isplitl [H6]
  · iexists _; isplitr; swap; iexact H6; ipureintro
    rfl
  isplitl [H7]
  · iexists _; isplitr; swap; iexact H7; ipureintro
    rfl
  isplitl [H8]
  · iexists _; isplitr; swap; iexact H8; ipureintro
    rfl
  isplitl [H9]
  · iexists _; isplitr; swap; iexact H9; ipureintro
    rfl
  isplitl [H10]
  · iexists _; isplitr; swap; iexact H10; ipureintro
    rfl
  isplitl [H11]
  · iexists _; isplitr; swap; iexact H11; ipureintro
    rfl
  isplitl [H17]
  · iexists _; iexists _; isplitr; swap; iexact H17; ipureintro
    rfl
  isplitl [H18]
  · iexists _; iexists _; isplitr; swap; iexact H18; ipureintro
    rfl
  isplitl [H19]
  · iexists _; iexists _; isplitr; swap; iexact H19; ipureintro
    rfl
  isplitl [H20]
  · iexists _; iexists _; isplitr; swap; iexact H20; ipureintro
    rfl
  isplitl [H21]
  · iexists _; iexists _; isplitr; swap; iexact H21; ipureintro
    rfl
  isplitl [H22]
  · iexists _; iexists _; isplitr; swap; iexact H22; ipureintro
    rfl
  isplitl [H23]
  · iexists _; iexists _; isplitr; swap; iexact H23; ipureintro
    rfl
  isplitl [H25]
  · iexists _; iexists _; isplitr; swap; iexact H25; ipureintro
    rfl
  isplitl [H26]
  · iexists _; iexists _; isplitr; swap; iexact H26; ipureintro
    rfl
  isplitl [H27]
  · iexists _; iexists _; isplitr; swap; iexact H27; ipureintro
    rfl
  · iexists _; iexists _; isplitr; swap; iexact H28; ipureintro
    rfl

end Cert.KernelIdeal.HandFrame
-- ==== Proof.Hand.FrameIdeal.WeakLogits.lean ====
module

public import proofs.«01_k».proof.Proof.Gen.KernelIdeal.Frame
public import proofs.«01_k».proof.Proof.Gen.KernelIdeal.Skeleton
public import Idealize.ShloMosaic.Lib.VecWindow
public import Idealize.ShloMosaic.Lib.Tactic.RunNames

/-! # The body at one grid point, contents forgotten (logits) -/

@[expose] public section

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 4000000 in
set_option maxRecDepth 100000 in
/-- The body at one grid point, contents forgotten (logits) -/
theorem weak_logits (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : k0_cond2 i = 1#1) (h3 : ¬ k0_cond3 i = 1#1) (h4 : ¬ k0_cond4 i = 1#1) (h5 : ¬ k0_cond5 i = 1#1)
    (d7 : Vec F S2560x768 .i8) (d8 : Vec F S40x768 .f32) (d9 : Vec F S40x768 .f32) (d10 : Vec F S768x3072 .fp8e4m3) (d11 : Vec F S1x768 .f32) (d17 : Vec F S128x3072 .fp8e4m3) (d18 : Vec F S128x1 .f32) (d19 : Vec F S42x128x768 .f32) (d20 : Vec F S42x128x768 .f32) (d21 : Vec F S128x5120 .bf16) (d25 : Vec F S128x128 .f32) (d26 : Vec F S128x128 .f32) (d27 : Vec F S128x128 .f32) (d28 : Vec F S128x128 .f32)  (K : PUnit → sProp 𝕄) :
    iprop(owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg25 fullShare d25 ∗ owns (c : Thread nD τ) arg26 fullShare d26 ∗ owns (c : Thread nD τ) arg27 fullShare d27 ∗ owns (c : Thread nD τ) arg28 fullShare d28 ∗ (iprop(owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ (∃ d, owns (c : Thread nD τ) arg19 fullShare d) ∗ (∃ d, owns (c : Thread nD τ) arg20 fullShare d) ∗ owns (c : Thread nD τ) arg21 fullShare d21 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%f19, %hf19, H19⟩, ⟨%f20, %hf20, H20⟩, ⟨%f21, %hf21, H21⟩, ⟨%f25, %hf25, H25⟩, ⟨%f26, %hf26, H26⟩, ⟨%f27, %hf27, H27⟩, ⟨%f28, %hf28, H28⟩, Hk⟩
  subst hf7
  subst hf8
  subst hf9
  subst hf10
  subst hf11
  subst hf17
  subst hf18
  subst hf19
  subst hf20
  subst hf21
  subst hf25
  subst hf26
  subst hf27
  subst hf28
  sl_exec
  sl_step
  iapply Hk
  isplitl [H7]
  · iexists _; isplitr; swap; iexact H7; ipureintro
    rfl
  isplitl [H8]
  · iexists _; isplitr; swap; iexact H8; ipureintro
    rfl
  isplitl [H9]
  · iexists _; isplitr; swap; iexact H9; ipureintro
    rfl
  isplitl [H10]
  · iexists _; isplitr; swap; iexact H10; ipureintro
    rfl
  isplitl [H11]
  · iexists _; isplitr; swap; iexact H11; ipureintro
    rfl
  isplitl [H17]
  · iexists _; isplitr; swap; iexact H17; ipureintro
    rfl
  isplitl [H18]
  · iexists _; isplitr; swap; iexact H18; ipureintro
    rfl
  isplitl [H19]
  · iexists _; iexists _; isplitr; swap; iexact H19; ipureintro
    rfl
  isplitl [H20]
  · iexists _; iexists _; isplitr; swap; iexact H20; ipureintro
    rfl
  isplitl [H21]
  · iexists _; isplitr; swap; iexact H21; ipureintro
    rfl
  isplitl [H25]
  · iexists _; iexists _; isplitr; swap; iexact H25; ipureintro
    rfl
  isplitl [H26]
  · iexists _; iexists _; isplitr; swap; iexact H26; ipureintro
    rfl
  isplitl [H27]
  · iexists _; iexists _; isplitr; swap; iexact H27; ipureintro
    rfl
  · iexists _; iexists _; isplitr; swap; iexact H28; ipureintro
    rfl

end Cert.KernelIdeal.HandFrame
-- ==== Proof.Hand.FrameIdeal.WeakMid.lean ====
module

public import proofs.«01_k».proof.Proof.Gen.KernelIdeal.Frame
public import proofs.«01_k».proof.Proof.Gen.KernelIdeal.Skeleton
public import Idealize.ShloMosaic.Lib.VecWindow
public import Idealize.ShloMosaic.Lib.Tactic.RunNames

/-! # The body at one grid point, contents forgotten (mid) -/

@[expose] public section

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 4000000 in
set_option maxRecDepth 100000 in
/-- The body at one grid point, contents forgotten (mid) -/
theorem weak_mid (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : ¬ k0_cond2 i = 1#1) (h3 : k0_cond3 i = 1#1) (h4 : k0_cond4 i = 1#1) (h5 : ¬ k0_cond5 i = 1#1)
    (d10 : Vec F S768x3072 .fp8e4m3) (d11 : Vec F S1x768 .f32) (d13 : Vec F S128x1 .f32) (d14 : Vec F S128x1 .f32) (d19 : Vec F S42x128x768 .f32) (d20 : Vec F S42x128x768 .f32) (d24 : Vec F S256x3072 .f32) (d25 : Vec F S128x128 .f32) (d26 : Vec F S128x128 .f32) (d27 : Vec F S128x128 .f32) (d28 : Vec F S128x128 .f32) (d29 : Vec F S128x128 .f32) (d30 : Vec F S128x128 .f32)  (K : PUnit → sProp 𝕄) :
    iprop(owns (c : Thread nD τ) arg10 fullShare d10 ∗ owns (c : Thread nD τ) arg11 fullShare d11 ∗ owns (c : Thread nD τ) arg13 fullShare d13 ∗ owns (c : Thread nD τ) arg14 fullShare d14 ∗ owns (c : Thread nD τ) arg19 fullShare d19 ∗ owns (c : Thread nD τ) arg20 fullShare d20 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ owns (c : Thread nD τ) arg30 fullShare d30 ∗ (iprop(owns (c : Thread nD τ) arg10 fullShare d10 ∗ owns (c : Thread nD τ) arg11 fullShare d11 ∗ (∃ d, owns (c : Thread nD τ) arg13 fullShare d) ∗ (∃ d, owns (c : Thread nD τ) arg14 fullShare d) ∗ owns (c : Thread nD τ) arg19 fullShare d19 ∗ owns (c : Thread nD τ) arg20 fullShare d20 ∗ (∃ d, owns (c : Thread nD τ) arg24 fullShare d) ∗ (∃ d, owns (c : Thread nD τ) arg25 fullShare d) ∗ owns (c : Thread nD τ) arg26 fullShare d26 ∗ (∃ d, owns (c : Thread nD τ) arg27 fullShare d) ∗ owns (c : Thread nD τ) arg28 fullShare d28 ∗ (∃ d, owns (c : Thread nD τ) arg29 fullShare d) ∗ (∃ d, owns (c : Thread nD τ) arg30 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f10, %hf10, H10⟩, ⟨%f11, %hf11, H11⟩, ⟨%f13, %hf13, H13⟩, ⟨%f14, %hf14, H14⟩, ⟨%f19, %hf19, H19⟩, ⟨%f20, %hf20, H20⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
  subst hf10
  subst hf11
  subst hf13
  subst hf14
  subst hf19
  subst hf20
  subst hf24
  subst hf25
  subst hf26
  subst hf27
  subst hf28
  subst hf29
  subst hf30
  sl_exec
  sl_step
  iapply Hk
  isplitl [H10]
  · iexists _; isplitr; swap; iexact H10; ipureintro
    rfl
  isplitl [H11]
  · iexists _; isplitr; swap; iexact H11; ipureintro
    rfl
  isplitl [H13]
  · iexists _; iexists _; isplitr; swap; iexact H13; ipureintro
    rfl
  isplitl [H14]
  · iexists _; iexists _; isplitr; swap; iexact H14; ipureintro
    rfl
  isplitl [H19]
  · iexists _; isplitr; swap; iexact H19; ipureintro
    rfl
  isplitl [H20]
  · iexists _; isplitr; swap; iexact H20; ipureintro
    rfl
  isplitl [H24]
  · iexists _; iexists _; isplitr; swap; iexact H24; ipureintro
    rfl
  isplitl [H25]
  · iexists _; iexists _; isplitr; swap; iexact H25; ipureintro
    rfl
  isplitl [H26]
  · iexists _; isplitr; swap; iexact H26; ipureintro
    rfl
  isplitl [H27]
  · iexists _; iexists _; isplitr; swap; iexact H27; ipureintro
    rfl
  isplitl [H28]
  · iexists _; isplitr; swap; iexact H28; ipureintro
    rfl
  isplitl [H29]
  · iexists _; iexists _; isplitr; swap; iexact H29; ipureintro
    rfl
  · iexists _; iexists _; isplitr; swap; iexact H30; ipureintro
    rfl

end Cert.KernelIdeal.HandFrame
-- ==== Proof.Hand.FrameIdeal.WeakGrad.lean ====
module

public import proofs.«01_k».proof.Proof.Gen.KernelIdeal.Frame
public import proofs.«01_k».proof.Proof.Gen.KernelIdeal.Skeleton
public import Idealize.ShloMosaic.Lib.VecWindow
public import Idealize.ShloMosaic.Lib.Tactic.RunNames

/-! # The body at one grid point, contents forgotten (grad) -/

@[expose] public section

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 4000000 in
set_option maxRecDepth 100000 in
/-- The body at one grid point, contents forgotten (grad) -/
theorem weak_grad (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : ¬ k0_cond2 i = 1#1) (h3 : ¬ k0_cond3 i = 1#1) (h4 : k0_cond4 i = 1#1) (h5 : ¬ k0_cond5 i = 1#1)
    (d10 : Vec F S768x3072 .fp8e4m3) (d11 : Vec F S1x768 .f32) (d19 : Vec F S42x128x768 .f32) (d20 : Vec F S42x128x768 .f32) (d24 : Vec F S256x3072 .f32) (d25 : Vec F S128x128 .f32) (d27 : Vec F S128x128 .f32) (d29 : Vec F S128x128 .f32) (d30 : Vec F S128x128 .f32)  (K : PUnit → sProp 𝕄) :
    iprop(owns (c : Thread nD τ) arg10 fullShare d10 ∗ owns (c : Thread nD τ) arg11 fullShare d11 ∗ owns (c : Thread nD τ) arg19 fullShare d19 ∗ owns (c : Thread nD τ) arg20 fullShare d20 ∗ owns (c : Thread nD τ) arg24 fullShare d24 ∗ owns (c : Thread nD τ) arg25 fullShare d25 ∗ owns (c : Thread nD τ) arg27 fullShare d27 ∗ owns (c : Thread nD τ) arg29 fullShare d29 ∗ owns (c : Thread nD τ) arg30 fullShare d30 ∗ (iprop(owns (c : Thread nD τ) arg10 fullShare d10 ∗ owns (c : Thread nD τ) arg11 fullShare d11 ∗ owns (c : Thread nD τ) arg19 fullShare d19 ∗ owns (c : Thread nD τ) arg20 fullShare d20 ∗ (∃ d, owns (c : Thread nD τ) arg24 fullShare d) ∗ owns (c : Thread nD τ) arg25 fullShare d25 ∗ owns (c : Thread nD τ) arg27 fullShare d27 ∗ (∃ d, owns (c : Thread nD τ) arg29 fullShare d) ∗ (∃ d, owns (c : Thread nD τ) arg30 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f10, %hf10, H10⟩, ⟨%f11, %hf11, H11⟩, ⟨%f19, %hf19, H19⟩, ⟨%f20, %hf20, H20⟩, ⟨%f24, %hf24, H24⟩, ⟨%f25, %hf25, H25⟩, ⟨%f27, %hf27, H27⟩, ⟨%f29, %hf29, H29⟩, ⟨%f30, %hf30, H30⟩, Hk⟩
  subst hf10
  subst hf11
  subst hf19
  subst hf20
  subst hf24
  subst hf25
  subst hf27
  subst hf29
  subst hf30
  sl_exec
  sl_step
  iapply Hk
  isplitl [H10]
  · iexists _; isplitr; swap; iexact H10; ipureintro
    rfl
  isplitl [H11]
  · iexists _; isplitr; swap; iexact H11; ipureintro
    rfl
  isplitl [H19]
  · iexists _; isplitr; swap; iexact H19; ipureintro
    rfl
  isplitl [H20]
  · iexists _; isplitr; swap; iexact H20; ipureintro
    rfl
  isplitl [H24]
  · iexists _; iexists _; isplitr; swap; iexact H24; ipureintro
    rfl
  isplitl [H25]
  · iexists _; isplitr; swap; iexact H25; ipureintro
    rfl
  isplitl [H27]
  · iexists _; isplitr; swap; iexact H27; ipureintro
    rfl
  isplitl [H29]
  · iexists _; iexists _; isplitr; swap; iexact H29; ipureintro
    rfl
  · iexists _; iexists _; isplitr; swap; iexact H30; ipureintro
    rfl

end Cert.KernelIdeal.HandFrame
-- ==== Proof.Hand.FrameIdeal.WeakLast.lean ====
module

public import proofs.«01_k».proof.Proof.Gen.KernelIdeal.Frame
public import proofs.«01_k».proof.Proof.Gen.KernelIdeal.Skeleton
public import Idealize.ShloMosaic.Lib.VecWindow
public import Idealize.ShloMosaic.Lib.Tactic.RunNames

/-! # The body at one grid point, contents forgotten (last) -/

@[expose] public section

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 4000000 in
set_option maxRecDepth 100000 in
/-- The body at one grid point, contents forgotten (last) -/
theorem weak_last (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : ¬ k0_cond2 i = 1#1) (h3 : ¬ k0_cond3 i = 1#1) (h4 : k0_cond4 i = 1#1) (h5 : k0_cond5 i = 1#1)
    (d1 : Vec F S1 .i32) (d5 : Vec F S1x3072 .f32) (d10 : Vec F S768x3072 .fp8e4m3) (d11 : Vec F S1x768 .f32) (d12 : Vec F S128x1 .f32) (d15 : Vec F S128x3072 .bf16) (d16 : Vec F S128x3072 .f32) (d19 : Vec F S42x128x768 .f32) (d20 : Vec F S42x128x768 .f32) (d22 : Vec F S128x3072 .f32) (d23 : Vec F S128x1 .f32) (d24 : Vec F S256x3072 .f32) (d25 : Vec F S128x128 .f32) (d27 : Vec F S128x128 .f32) (d29 : Vec F S128x128 .f32) (d30 : Vec F S128x128 .f32)  (K : PUnit → sProp 𝕄) :
    iprop(owns (c : Thread nD τ) arg1 fullShare d1 ∗ owns (c : Thread nD τ) arg5 fullShare d5 ∗ owns (c : Thread nD τ) arg10 fullShare d10 ∗ owns (c : Thread nD τ) arg11 fullShare d11 ∗ owns (c : Thread nD τ) arg12 fullShare d12 ∗ owns (c : Thread nD τ) arg15 fullShare d15 ∗ owns (c : Thread nD τ) arg16 fullShare d16 ∗ owns (c : Thread nD τ) arg19 fullShare d19 ∗ owns (c : Thread nD τ) arg20 fullShare d20 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg27 fullShare d27 ∗ owns (c : Thread nD τ) arg29 fullShare d29 ∗ owns (c : Thread nD τ) arg30 fullShare d30 ∗ (iprop(owns (c : Thread nD τ) arg1 fullShare d1 ∗ owns (c : Thread nD τ) arg5 fullShare d5 ∗ owns (c : Thread nD τ) arg10 fullShare d10 ∗ owns (c : Thread nD τ) arg11 fullShare d11 ∗ (∃ d, owns (c : Thread nD τ) arg12 fullShare d) ∗ (∃ d, owns (c : Thread nD τ) arg15 fullShare d) ∗ (∃ d, owns (c : Thread nD τ) arg16 fullShare d) ∗ owns (c : Thread nD τ) arg19 fullShare d19 ∗ owns (c : Thread nD τ) arg20 fullShare d20 ∗ owns (c : Thread nD τ) arg22 fullShare d22 ∗ owns (c : Thread nD τ) arg23 fullShare d23 ∗ (∃ d, owns (c : Thread nD τ) arg24 fullShare d) ∗ owns (c : Thread nD τ) arg25 fullShare d25 ∗ owns (c : Thread nD τ) arg27 fullShare d27 ∗ (∃ d, owns (c : Thread nD τ) arg29 fullShare d) ∗ (∃ d, owns (c : Thread nD τ) arg30 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f1, %hf1, H1⟩, ⟨%f5, %hf5, H5⟩, ⟨%f10, %hf10, H10⟩, ⟨%f11, %hf11, H11⟩, ⟨%f12, %hf12, H12⟩, ⟨%f15, %hf15, H15⟩, ⟨%f16, %hf16, H16⟩, ⟨%f19, %hf19, H19⟩, ⟨%f20, %hf20, H20⟩, ⟨%f22, %hf22, H22⟩, ⟨%f23, %hf23, H23⟩, ⟨%f24, %hf24, H24⟩, ⟨%f25, %hf25, H25⟩, ⟨%f27, %hf27, H27⟩, ⟨%f29, %hf29, H29⟩, ⟨%f30, %hf30, H30⟩, Hk⟩
  subst hf1
  subst hf5
  subst hf10
  subst hf11
  subst hf12
  subst hf15
  subst hf16
  subst hf19
  subst hf20
  subst hf22
  subst hf23
  subst hf24
  subst hf25
  subst hf27
  subst hf29
  subst hf30
  sl_exec
  sl_step
  iapply Hk
  isplitl [H1]
  · iexists _; isplitr; swap; iexact H1; ipureintro
    rfl
  isplitl [H5]
  · iexists _; isplitr; swap; iexact H5; ipureintro
    rfl
  isplitl [H10]
  · iexists _; isplitr; swap; iexact H10; ipureintro
    rfl
  isplitl [H11]
  · iexists _; isplitr; swap; iexact H11; ipureintro
    rfl
  isplitl [H12]
  · iexists _; iexists _; isplitr; swap; iexact H12; ipureintro
    rfl
  isplitl [H15]
  · iexists _; iexists _; isplitr; swap; iexact H15; ipureintro
    rfl
  isplitl [H16]
  · iexists _; iexists _; isplitr; swap; iexact H16; ipureintro
    rfl
  isplitl [H19]
  · iexists _; isplitr; swap; iexact H19; ipureintro
    rfl
  isplitl [H20]
  · iexists _; isplitr; swap; iexact H20; ipureintro
    rfl
  isplitl [H22]
  · iexists _; isplitr; swap; iexact H22; ipureintro
    rfl
  isplitl [H23]
  · iexists _; isplitr; swap; iexact H23; ipureintro
    rfl
  isplitl [H24]
  · iexists _; iexists _; isplitr; swap; iexact H24; ipureintro
    rfl
  isplitl [H25]
  · iexists _; isplitr; swap; iexact H25; ipureintro
    rfl
  isplitl [H27]
  · iexists _; isplitr; swap; iexact H27; ipureintro
    rfl
  isplitl [H29]
  · iexists _; iexists _; isplitr; swap; iexact H29; ipureintro
    rfl
  · iexists _; iexists _; isplitr; swap; iexact H30; ipureintro
    rfl

end Cert.KernelIdeal.HandFrame
-- ==== Proof.Hand.FrameIdeal.Run.lean ====
module

public import proofs.«01_k».proof.Proof.Hand.FrameIdeal.WeakFirst
public import proofs.«01_k».proof.Proof.Hand.FrameIdeal.WeakLogits
public import proofs.«01_k».proof.Proof.Hand.FrameIdeal.WeakMid
public import proofs.«01_k».proof.Proof.Hand.FrameIdeal.WeakGrad
public import proofs.«01_k».proof.Proof.Hand.FrameIdeal.WeakLast

/-! # The kernel runs, leaves its arguments alone and its counters at zero -/

@[expose] public section

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Between grid points the twelve scratch buffers hold something. -/
def ScratchAny (c : Dev nD) : sProp 𝕄 :=
  iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f) ∗ (∃ f, owns (c : Thread nD τ) (Memref.whole cc0_scratch5) fullShare f) ∗ (∃ f, owns (c : Thread nD τ) (Memref.whole cc0_scratch6) fullShare f) ∗ (∃ f, owns (c : Thread nD τ) (Memref.whole cc0_scratch7) fullShare f) ∗ (∃ f, owns (c : Thread nD τ) (Memref.whole cc0_scratch8) fullShare f) ∗ (∃ f, owns (c : Thread nD τ) (Memref.whole cc0_scratch9) fullShare f) ∗ (∃ f, owns (c : Thread nD τ) (Memref.whole cc0_scratch10) fullShare f) ∗ (∃ f, owns (c : Thread nD τ) (Memref.whole cc0_scratch11) fullShare f)) ∗ ∃ r, prngReg c r)

/-- The body may leave anything in an output's buffer; an input's it leaves as it found it. -/
def rdat (c : Dev nD) : RDat τ (Elt F) Unit ℕ (UR sig nD τ) ℕ cfg0 c where
  A w := V m c (Pipeline.arrRef spec0 w)
  after w _ Y X := w.val < 11 → X = Y
  Φ _ := ScratchAny c
  q _ := fullShare
  owed _ := 0

/-- Which of the five conditions hold at a point. -/
theorem cond1_iff : ∀ t : Fin cfg0.N, k0_cond1 (grid0.coords t) = 1#1 ↔ t.val = 0 := by decide +kernel
theorem cond2_iff : ∀ t : Fin cfg0.N, k0_cond2 (grid0.coords t) = 1#1 ↔ t.val < 42 := by decide +kernel
theorem cond3_iff : ∀ t : Fin cfg0.N, k0_cond3 (grid0.coords t) = 1#1 ↔ t.val = 42 := by decide +kernel
theorem cond4_iff : ∀ t : Fin cfg0.N, k0_cond4 (grid0.coords t) = 1#1 ↔ 42 ≤ t.val := by decide +kernel
theorem cond5_iff : ∀ t : Fin cfg0.N, k0_cond5 (grid0.coords t) = 1#1 ↔ t.val = 83 := by decide +kernel

/-- What the body is handed at a point, and what it hands back. -/
def bodyPre (c : Dev nD) (t : Fin cfg0.N) (Y : (w : Fin cfg0.W) → (cfg0.win w).block.Idx → Elt F (cfg0.win w).elt) : sProp 𝕄 :=
  iprop(ScratchAny c ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17))

def bodyPost (c : Dev nD) (t : Fin cfg0.N) (Y : (w : Fin cfg0.W) → (cfg0.win w).block.Idx → Elt F (cfg0.win w).elt) : sProp 𝕄 :=
  iprop(ScratchAny c ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X) ∗ (∃ X, ⌜(rdat m c).after 11 t (Y 11) X⌝ ∗ owns (c : Thread nD τ) (st0_11 t) fullShare X) ∗ (∃ X, ⌜(rdat m c).after 12 t (Y 12) X⌝ ∗ owns (c : Thread nD τ) (st0_12 t) fullShare X) ∗ (∃ X, ⌜(rdat m c).after 13 t (Y 13) X⌝ ∗ owns (c : Thread nD τ) (st0_13 t) fullShare X) ∗ (∃ X, ⌜(rdat m c).after 14 t (Y 14) X⌝ ∗ owns (c : Thread nD τ) (st0_14 t) fullShare X) ∗ (∃ X, ⌜(rdat m c).after 15 t (Y 15) X⌝ ∗ owns (c : Thread nD τ) (st0_15 t) fullShare X) ∗ (∃ X, ⌜(rdat m c).after 16 t (Y 16) X⌝ ∗ owns (c : Thread nD τ) (st0_16 t) fullShare X) ∗ (∃ X, ⌜(rdat m c).after 17 t (Y 17) X⌝ ∗ owns (c : Thread nD τ) (st0_17 t) fullShare X))

/-- The body at the points with t.val = 0. -/
theorem body_first (c : Dev nD) (t : Fin cfg0.N) (ht : t.val = 0) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : k0_cond1 (grid0.coords t) = 1#1 := (cond1_iff t).mpr (by omega)
  have h2 : k0_cond2 (grid0.coords t) = 1#1 := (cond2_iff t).mpr (by omega)
  have h3 : ¬ k0_cond3 (grid0.coords t) = 1#1 := fun h => absurd ((cond3_iff t).mp h) (by omega)
  have h4 : ¬ k0_cond4 (grid0.coords t) = 1#1 := fun h => absurd ((cond4_iff t).mp h) (by omega)
  have h5 : ¬ k0_cond5 (grid0.coords t) = 1#1 := fun h => absurd ((cond5_iff t).mp h) (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_first c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 1) (Y 2) (Y 3) (Y 4) (Y 5) (Y 6) (Y 7) (Y 8) (Y 9) (Y 10) (Y 16) (Y 17) e19 e20 e21 e22 e23 e25 e26 e27 e28 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H25]; · iexact H25
  isplitl [H26]; · iexact H26
  isplitl [H27]; · iexact H27
  isplitl [H28]; · iexact H28
  iintro ⟨H2, H3, H4, H5, H6, H7, H8, H9, H10, H11, ⟨%g17, H17⟩, ⟨%g18, H18⟩, ⟨%g19, H19⟩, ⟨%g20, H20⟩, ⟨%g21, H21⟩, ⟨%g22, H22⟩, ⟨%g23, H23⟩, ⟨%g25, H25⟩, ⟨%g26, H26⟩, ⟨%g27, H27⟩, ⟨%g28, H28⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

/-- The body at the points with 0 < t.val ∧ t.val < 42. -/
theorem body_logits (c : Dev nD) (t : Fin cfg0.N) (ht : 0 < t.val ∧ t.val < 42) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : ¬ k0_cond1 (grid0.coords t) = 1#1 := fun h => absurd ((cond1_iff t).mp h) (by omega)
  have h2 : k0_cond2 (grid0.coords t) = 1#1 := (cond2_iff t).mpr (by omega)
  have h3 : ¬ k0_cond3 (grid0.coords t) = 1#1 := fun h => absurd ((cond3_iff t).mp h) (by omega)
  have h4 : ¬ k0_cond4 (grid0.coords t) = 1#1 := fun h => absurd ((cond4_iff t).mp h) (by omega)
  have h5 : ¬ k0_cond5 (grid0.coords t) = 1#1 := fun h => absurd ((cond5_iff t).mp h) (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_logits c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 6) (Y 7) (Y 8) (Y 9) (Y 10) (Y 16) (Y 17) e19 e20 e21 e25 e26 e27 e28 _)
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H19]; · iexact H19
  isplitl [H20]; · iexact H20
  isplitl [H21]; · iexact H21
  isplitl [H25]; · iexact H25
  isplitl [H26]; · iexact H26
  isplitl [H27]; · iexact H27
  isplitl [H28]; · iexact H28
  iintro ⟨H7, H8, H9, H10, H11, H17, H18, ⟨%g19, H19⟩, ⟨%g20, H20⟩, H21, ⟨%g25, H25⟩, ⟨%g26, H26⟩, ⟨%g27, H27⟩, ⟨%g28, H28⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

/-- The body at the points with t.val = 42. -/
theorem body_mid (c : Dev nD) (t : Fin cfg0.N) (ht : t.val = 42) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : ¬ k0_cond1 (grid0.coords t) = 1#1 := fun h => absurd ((cond1_iff t).mp h) (by omega)
  have h2 : ¬ k0_cond2 (grid0.coords t) = 1#1 := fun h => absurd ((cond2_iff t).mp h) (by omega)
  have h3 : k0_cond3 (grid0.coords t) = 1#1 := (cond3_iff t).mpr (by omega)
  have h4 : k0_cond4 (grid0.coords t) = 1#1 := (cond4_iff t).mpr (by omega)
  have h5 : ¬ k0_cond5 (grid0.coords t) = 1#1 := fun h => absurd ((cond5_iff t).mp h) (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_mid c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 9) (Y 10) (Y 12) (Y 13) e19 e20 e24 e25 e26 e27 e28 e29 e30 _)
  isplitl [H10]; · iexact H10
  isplitl [H11]; · iexact H11
  isplitl [H13]; · iexact H13
  isplitl [H14]; · iexact H14
  isplitl [H19]; · iexact H19
  isplitl [H20]; · iexact H20
  isplitl [H24]; · iexact H24
  isplitl [H25]; · iexact H25
  isplitl [H26]; · iexact H26
  isplitl [H27]; · iexact H27
  isplitl [H28]; · iexact H28
  isplitl [H29]; · iexact H29
  isplitl [H30]; · iexact H30
  iintro ⟨H10, H11, ⟨%g13, H13⟩, ⟨%g14, H14⟩, H19, H20, ⟨%g24, H24⟩, ⟨%g25, H25⟩, H26, ⟨%g27, H27⟩, H28, ⟨%g29, H29⟩, ⟨%g30, H30⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

/-- The body at the points with 42 < t.val ∧ t.val < 83. -/
theorem body_grad (c : Dev nD) (t : Fin cfg0.N) (ht : 42 < t.val ∧ t.val < 83) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : ¬ k0_cond1 (grid0.coords t) = 1#1 := fun h => absurd ((cond1_iff t).mp h) (by omega)
  have h2 : ¬ k0_cond2 (grid0.coords t) = 1#1 := fun h => absurd ((cond2_iff t).mp h) (by omega)
  have h3 : ¬ k0_cond3 (grid0.coords t) = 1#1 := fun h => absurd ((cond3_iff t).mp h) (by omega)
  have h4 : k0_cond4 (grid0.coords t) = 1#1 := (cond4_iff t).mpr (by omega)
  have h5 : ¬ k0_cond5 (grid0.coords t) = 1#1 := fun h => absurd ((cond5_iff t).mp h) (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_grad c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 9) (Y 10) e19 e20 e24 e25 e27 e29 e30 _)
  isplitl [H10]; · iexact H10
  isplitl [H11]; · iexact H11
  isplitl [H19]; · iexact H19
  isplitl [H20]; · iexact H20
  isplitl [H24]; · iexact H24
  isplitl [H25]; · iexact H25
  isplitl [H27]; · iexact H27
  isplitl [H29]; · iexact H29
  isplitl [H30]; · iexact H30
  iintro ⟨H10, H11, H19, H20, ⟨%g24, H24⟩, H25, H27, ⟨%g29, H29⟩, ⟨%g30, H30⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

/-- The body at the points with t.val = 83. -/
theorem body_last (c : Dev nD) (t : Fin cfg0.N) (ht : t.val = 83) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have h1 : ¬ k0_cond1 (grid0.coords t) = 1#1 := fun h => absurd ((cond1_iff t).mp h) (by omega)
  have h2 : ¬ k0_cond2 (grid0.coords t) = 1#1 := fun h => absurd ((cond2_iff t).mp h) (by omega)
  have h3 : ¬ k0_cond3 (grid0.coords t) = 1#1 := fun h => absurd ((cond3_iff t).mp h) (by omega)
  have h4 : k0_cond4 (grid0.coords t) = 1#1 := (cond4_iff t).mpr (by omega)
  have h5 : k0_cond5 (grid0.coords t) = 1#1 := (cond5_iff t).mpr (by omega)
  unfold bodyPre bodyPost bodyAt0 ScratchAny
  rw [show (rdat m c).owesAt () t.succ = (rdat m c).owesAt () t.castSucc from rfl]
  iintro ⟨⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩, Ho, H1, H2, H3, H4, H5, H6, H7, H8, H9, H10, H11, H12, H13, H14, H15, H16, H17, H18⟩
  iapply (weak_last c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 0) (Y 4) (Y 9) (Y 10) (Y 11) (Y 14) (Y 15) e19 e20 e22 e23 e24 e25 e27 e29 e30 _)
  isplitl [H1]; · iexact H1
  isplitl [H5]; · iexact H5
  isplitl [H10]; · iexact H10
  isplitl [H11]; · iexact H11
  isplitl [H12]; · iexact H12
  isplitl [H15]; · iexact H15
  isplitl [H16]; · iexact H16
  isplitl [H19]; · iexact H19
  isplitl [H20]; · iexact H20
  isplitl [H22]; · iexact H22
  isplitl [H23]; · iexact H23
  isplitl [H24]; · iexact H24
  isplitl [H25]; · iexact H25
  isplitl [H27]; · iexact H27
  isplitl [H29]; · iexact H29
  isplitl [H30]; · iexact H30
  iintro ⟨H1, H5, H10, H11, ⟨%g12, H12⟩, ⟨%g15, H15⟩, ⟨%g16, H16⟩, H19, H20, H22, H23, ⟨%g24, H24⟩, H25, H27, ⟨%g29, H29⟩, ⟨%g30, H30⟩⟩
  isplitl [HP H19 H20 H21 H22 H23 H24 H25 H26 H27 H28 H29 H30]
  · isplitr [HP]
    · isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      iexists _; iexact H30
    · iexact HP
  isplitl [Ho]; · iexact Ho
  isplitl [H1]
  · iexists _; isplitr; swap; · iexact H1
    ipureintro; intro h; rfl
  isplitl [H2]
  · iexists _; isplitr; swap; · iexact H2
    ipureintro; intro h; rfl
  isplitl [H3]
  · iexists _; isplitr; swap; · iexact H3
    ipureintro; intro h; rfl
  isplitl [H4]
  · iexists _; isplitr; swap; · iexact H4
    ipureintro; intro h; rfl
  isplitl [H5]
  · iexists _; isplitr; swap; · iexact H5
    ipureintro; intro h; rfl
  isplitl [H6]
  · iexists _; isplitr; swap; · iexact H6
    ipureintro; intro h; rfl
  isplitl [H7]
  · iexists _; isplitr; swap; · iexact H7
    ipureintro; intro h; rfl
  isplitl [H8]
  · iexists _; isplitr; swap; · iexact H8
    ipureintro; intro h; rfl
  isplitl [H9]
  · iexists _; isplitr; swap; · iexact H9
    ipureintro; intro h; rfl
  isplitl [H10]
  · iexists _; isplitr; swap; · iexact H10
    ipureintro; intro h; rfl
  isplitl [H11]
  · iexists _; isplitr; swap; · iexact H11
    ipureintro; intro h; rfl
  isplitl [H12]
  · iexists _; isplitr; swap; · iexact H12
    ipureintro; intro h; exact absurd h (by decide)
  isplitl [H13]
  · iexists _; isplitr; swap; · iexact H13
    ipureintro; intro h; exact absurd h (by decide)
  isplitl [H14]
  · iexists _; isplitr; swap; · iexact H14
    ipureintro; intro h; exact absurd h (by decide)
  isplitl [H15]
  · iexists _; isplitr; swap; · iexact H15
    ipureintro; intro h; exact absurd h (by decide)
  isplitl [H16]
  · iexists _; isplitr; swap; · iexact H16
    ipureintro; intro h; exact absurd h (by decide)
  isplitl [H17]
  · iexists _; isplitr; swap; · iexact H17
    ipureintro; intro h; exact absurd h (by decide)
  iexists _; isplitr; swap; · iexact H18
  ipureintro; intro h; exact absurd h (by decide)

theorem defs₀_row (t : Fin cfg0.N) :
    defs₀ (F := F) .tc cfg0.body (cfg0.bodyArgs t (cfg0.slots t)) = bodyAt0 t := by
  unfold defs₀; rw [Defs.onTc_tc]

/-- The body at any point. -/
theorem body_any (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  have hN : t.val < 84 := t.isLt
  rcases Nat.lt_trichotomy t.val 42 with h | h | h
  · rcases Nat.eq_zero_or_pos t.val with h0 | h0
    · exact body_first m c t h0 Y
    · exact body_logits m c t ⟨h0, h⟩ Y
  · exact body_mid m c t h Y
  · rcases Nat.lt_or_ge t.val 83 with h0 | h0
    · exact body_grad m c t ⟨h, h0⟩ Y
    · exact body_last m c t (by omega) Y

theorem body_obligation (c : Dev nD) : (rdat m c).BodyObligation (defs₀ (F := F)) Variants.none () Set.univ := fun t Y _ => by
  rw [bigSep_W0, bigSep_W0, defs₀_row]
  exact body_any m c t Y

theorem scratch_in (c : Dev nD) : (Pipeline.ΦA spec0 c : sProp 𝕄) ⊢ ScratchAny c := by
  unfold Pipeline.ΦA ScratchAny
  rw [scopedRest0_eq]
  simp only [owns_whole]
  exact .rfl

theorem scratch_out (c : Dev nD) : (ScratchAny c : sProp 𝕄) ⊢ Pipeline.ΦA spec0 c := by
  unfold Pipeline.ΦA ScratchAny
  rw [scopedRest0_eq]
  simp only [owns_whole]
  exact .rfl

set_option backward.isDefEq.respectTransparency.types false in
/-- Every fair execution ends, with the arrays as the relation allows and every counter at zero. -/
theorem run_frame : θ_run defs (onTc (τ := τ) (main (F := F))) (s₀ m ρ)
    (fun r => RDat.FramePost cfg0 (rdat m) (V m) r ∧ r.2.sem = fun _ => 0) :=
  RDat.θ_run_frame_track cfgs 0 launch0 defs₀ Variants.none (rdat m) m ρ main (body_obligation m)
    (fun c w => by unfold RDat.share rdat; split <;> rfl) (fun _ _ => rfl) (V m) (hmain m Variants.none) (fun _ _ => rfl)
    scratch_in scratch_out _ (fun _ h => h)

/-- An input window's array ends as it began. -/
theorem arr_in {r : PUnit × MemSt nD τ sig (Elt F)} (h : RDat.FramePost cfg0 (rdat m) (V m) r) (c : Dev nD) (w : Fin cfg0.W)
    (hin : (cfg0.win w).isOut = false) :
    r.2.mem ((cfg0.spec w).arr.view.loc (c.tc : Thread nD τ)) = V m c (Pipeline.arrRef spec0 w) := by
  have h1 := (h c).1 w
  rw [(rdat m c).ArrAt_in w hin] at h1
  exact h1

/-- The run with the arguments unchanged. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ r => ⟨fun c => ⟨((r.1 c).2 main_arg0 (Pipeline.mem_restRefs_of main_arg0 (by decide) (by decide))).trans (V_main_arg0 m c),
    ((r.1 c).2 main_arg1 (Pipeline.mem_restRefs_of main_arg1 (by decide) (by decide))).trans (V_main_arg1 m c),
    ((r.1 c).2 main_arg2 (Pipeline.mem_restRefs_of main_arg2 (by decide) (by decide))).trans (V_main_arg2 m c),
    ((r.1 c).2 main_arg3 (Pipeline.mem_restRefs_of main_arg3 (by decide) (by decide))).trans (V_main_arg3 m c),
    (arr_in m r.1 c 6 rfl).trans (V_main_arg4 m c),
    (arr_in m r.1 c 7 rfl).trans (V_main_arg5 m c),
    (arr_in m r.1 c 8 rfl).trans (V_main_arg6 m c),
    (arr_in m r.1 c 9 rfl).trans (V_main_arg7 m c),
    ((r.1 c).2 main_arg8 (Pipeline.mem_restRefs_of main_arg8 (by decide) (by decide))).trans (V_main_arg8 m c),
    ((r.1 c).2 main_arg9 (Pipeline.mem_restRefs_of main_arg9 (by decide) (by decide))).trans (V_main_arg9 m c),
    (arr_in m r.1 c 0 rfl).trans (V_main_arg10 m c)⟩, r.2⟩) (run_frame m ρ)

end Cert.KernelIdeal.HandFrame

end
-- ==== Proof.Hand.Frames.lean ====
module

public import proofs.«01_k».proof.Defs
public import proofs.«01_k».proof.Proof.Hand.Frame.Run
public import proofs.«01_k».proof.Proof.Hand.FrameIdeal.Run
public import proofs.«01_k».proof.Proof.Gen.Reference.Frame
public import proofs.«01_k».proof.Proof.Gen.ReferenceIdeal.Frame
public import proofs.«01_k».proof.Proof.Gen.Pre_rows_in_range

/-! # The frame and constant claims -/

@[expose] public section

noncomputable section

namespace Cert.Claims

open Idealize.ShloMosaic Idealize.SL.Sem

theorem frame_kernel : Cert.quiescent_Kernel := fun m g _ => Cert.Kernel.Hand.run_args (F := Bits) m g

theorem frame_kernel_ideal : Cert.quiescent_KernelIdeal := fun m g _ => Cert.KernelIdeal.HandFrame.run_args (F := Ideal) m g

theorem frame_reference_ideal : Cert.quiescent_ReferenceIdeal := fun m g _ => Cert.ReferenceIdeal.Gen.frame (F := Ideal) m g

theorem frame_kernel_ideal_pre : Cert.quiescent_KernelIdeal_pre_rows_in_range :=
  fun m g _ => Cert.KernelIdeal.HandFrame.run_args (F := Ideal) m g

theorem frame_reference_ideal_pre : Cert.quiescent_ReferenceIdeal_pre_rows_in_range :=
  fun m g _ => Cert.ReferenceIdeal.Gen.frame (F := Ideal) m g

theorem frame_reference : Cert.quiescent_Reference := fun m g _ => Cert.Reference.Gen.frame (F := Bits) m g

theorem preserves_kernel : Cert.preserves_Kernel_KernelIdeal :=
  ⟨IdealRules.named_const.statement Cert.KernelIdeal.κ "neg_inf" .f32 0xF149F2CA#32 ⊥ rfl,
   IdealRules.named_const.statement Cert.KernelIdeal.κ "half_log2e" .f32 0x3F38AA3B#32 (((2 * (Real.log 2))⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl,
   IdealRules.named_const.statement Cert.KernelIdeal.κ "log_vocab" .f32 0x41260201#32 ((Real.log 32064 : ℝ) : EReal) rfl,
   IdealRules.named_const.statement Cert.KernelIdeal.κ "log2_three_quarters" .f32 0xBED47FCC#32 (((Real.log (3 / 4)) * (Real.log 2)⁻¹ : ℝ) : EReal) rfl,
   IdealRules.named_const.statement Cert.KernelIdeal.κ "grad_slope" .f32 0x3F051592#32 (((3 / 4) * (Real.log 2) : ℝ) : EReal) rfl,
   IdealRules.named_const.statement Cert.KernelIdeal.κ "grad_offset" .f32 0xBE5CF099#32 (((3 / 4) * (Real.log (3 / 4)) : ℝ) : EReal) rfl⟩

theorem preserves_reference : Cert.preserves_Reference_ReferenceIdeal :=
  IdealRules.named_const.statement Cert.ReferenceIdeal.κ "log_vocab" .f32 0x41260201#32 ((Real.log 32064 : ℝ) : EReal) rfl

end Cert.Claims

end
-- ==== Proof.Hand.Steps.lean ====
module

public import proofs.«01_k».proof.Proof.Gen.KernelIdeal.Frame
public import proofs.«01_k».proof.Proof.Gen.KernelIdeal.Skeleton
public import Idealize.ShloMosaic.Lib.VecWindow
public import Idealize.ShloMosaic.Lib.ValueIdx
public import Idealize.ShloMosaic.Lib.WritesUnit
public import Idealize.ShloMosaic.Lib.Pipeline.ReadBack

/-! # What one grid point computes, as functions of what it reads

The body of the kernel is five blocks: the prologue (point 0), the logits of a vocabulary tile (points below 42), the
logsumexps (point 42), the gradient of a vocabulary tile (points from 42 on) and the epilogue (point 83). Each
definition here is one value a block stores, from the values the block reads, with the printed payloads as
building stones. -/

@[expose] public section

noncomputable section

namespace Cert.KernelIdeal.Hand

open Cert.KernelIdeal Cert.KernelIdeal.Gen
open Idealize.ShloMosaic Idealize.SL.Sem

variable {F : FTy → Type} [FloatOps F] [Named F]

/-- A whole buffer, read as the window of its own sizes. -/
def whole {α : Type} {s : Shape} (off : Fin s.rank → ℕ) (d : s.Idx → α) (h : ∀ a, off a + s.size a ≤ s.size a) : s.Idx → α :=
  VecWindow.window d off s.size h

theorem whole_eq {α : Type} {s : Shape} (off : Fin s.rank → ℕ) (d : s.Idx → α) (h : ∀ a, off a + s.size a ≤ s.size a) :
    whole off d h = d := by
  funext y
  exact congrArg d (funext fun a => Fin.ext (by
    show off a + 1 * (y a).val = (y a).val
    have := h a; omega))

/-- What a buffer reads after one store of its own sizes into arbitrary contents. -/
def stored {Val : EltTy → Type} [∀ e, Nonempty (Val e)] {sig : RefSig} {κ : Kind} {sp : Space} {s : Shape} {e : EltTy}
    (m : Memref sig κ sp s e) (off : Fin s.rank → ℕ) (X : s.Idx → Val e) (h : ∀ a, off a + s.size a ≤ s.size a) : s.Idx → Val e :=
  m.view.read Val (m.view.writes Val m.view.junk [⟨Rect.unit off s.size h, X⟩])

theorem stored_eq {Val : EltTy → Type} [∀ e, Nonempty (Val e)] {sig : RefSig} {κ : Kind} {sp : Space} {s : Shape} {e : EltTy}
    (m : Memref sig κ sp s e) (off : Fin s.rank → ℕ) (X : s.Idx → Val e) (h : ∀ a, off a + s.size a ≤ s.size a) :
    stored m off X h = X :=
  View.read_writes_full _ _ _ _ _

/-- One step of the teacher product: 128 packed rows (256 rows of codes), dequantised and multiplied in. -/
def teacherChunk (pk : Vec F S2560x768 .i8) (sc ze : Vec F S40x768 .f32) (ht : Vec F S128x5120 .bf16) (k : ℕ) (hk : k < 20)
    (acc : FVec F S128x768 .f32) : FVec F S128x768 .f32 :=
  k0_pay30 acc
    (VecWindow.window pk ![128 * k, 0] S128x768.size (fun a => by fin_cases a <;> simp [S128x768, S2560x768] <;> omega))
    (VecWindow.window ze ![2 * k, 0] S1x768.size (fun a => by fin_cases a <;> simp [S1x768, S40x768] <;> omega))
    (VecWindow.window sc ![2 * k, 0] S1x768.size (fun a => by fin_cases a <;> simp [S1x768, S40x768] <;> omega))
    (VecWindow.window ze ![2 * k + 1, 0] S1x768.size (fun a => by fin_cases a <;> simp [S1x768, S40x768] <;> omega))
    (VecWindow.window sc ![2 * k + 1, 0] S1x768.size (fun a => by fin_cases a <;> simp [S1x768, S40x768] <;> omega))
    (VecWindow.window ht ![0, 256 * k] S128x256.size (fun a => by fin_cases a <;> simp [S128x256, S128x5120] <;> omega))

/-- The teacher product of a tile: the twenty steps from zero. -/
def teacherAcc (pk : Vec F S2560x768 .i8) (sc ze : Vec F S40x768 .f32) (ht : Vec F S128x5120 .bf16) : FVec F S128x768 .f32 :=
    (teacherChunk pk sc ze ht 19 (by decide)
      (teacherChunk pk sc ze ht 18 (by decide)
      (teacherChunk pk sc ze ht 17 (by decide)
      (teacherChunk pk sc ze ht 16 (by decide)
      (teacherChunk pk sc ze ht 15 (by decide)
      (teacherChunk pk sc ze ht 14 (by decide)
      (teacherChunk pk sc ze ht 13 (by decide)
      (teacherChunk pk sc ze ht 12 (by decide)
      (teacherChunk pk sc ze ht 11 (by decide)
      (teacherChunk pk sc ze ht 10 (by decide)
      (teacherChunk pk sc ze ht 9 (by decide)
      (teacherChunk pk sc ze ht 8 (by decide)
      (teacherChunk pk sc ze ht 7 (by decide)
      (teacherChunk pk sc ze ht 6 (by decide)
      (teacherChunk pk sc ze ht 5 (by decide)
      (teacherChunk pk sc ze ht 4 (by decide)
      (teacherChunk pk sc ze ht 3 (by decide)
      (teacherChunk pk sc ze ht 2 (by decide)
      (teacherChunk pk sc ze ht 1 (by decide)
      (teacherChunk pk sc ze ht 0 (by decide)
      (broadcast S128x768 (Scalar.ofBits .f32 0x00000000#32))))))))))))))))))))))

/-- The scaled teacher logits of tile `n`, minus infinity past the vocabulary. -/
def teacherTile (n : BitVec 32) (pk : Vec F S2560x768 .i8) (sc ze : Vec F S40x768 .f32) (ht : Vec F S128x5120 .bf16) :
    FVec F S128x768 .f32 :=
  select (k0_pay28 n)
    (mulf (teacherAcc pk sc ze ht) (broadcast S128x768 (Named.named κ "half_log2e" 0x3F38AA3B#32)))
    (broadcast S128x768 (Named.named κ "neg_inf" 0xF149F2CA#32))

/-- The scaled student logits of tile `n`, minus infinity past the vocabulary. -/
def studentTile (n : BitVec 32) (yc : Vec F S128x3072 .fp8e4m3) (w : Vec F S768x3072 .fp8e4m3) (ys : Vec F S128x1 .f32)
    (ws : Vec F S1x768 .f32) : FVec F S128x768 .f32 :=
  k0_pay84 (k0_pay28 n) yc w ys ws

/-- The running lane maxima after the tile `z`. -/
def foldMax (z : FVec F S128x768 .f32) (m : Vec F S128x128 .f32) : FVec F S128x128 .f32 :=
  k0_pay87 z m (extractStridedSlice S128x128 ![0, 0] z slices_S128x768_o0_0_S128x128)

/-- The running lane sums after the tile `z`, rebased to the new maxima. -/
def foldSum (z : FVec F S128x768 .f32) (m s : Vec F S128x128 .f32) : FVec F S128x128 .f32 :=
  k0_pay88 z s m (extractStridedSlice S128x128 ![0, 0] z slices_S128x768_o0_0_S128x128)

/-- Columns `256 j` to `256 j + 255` of a 128-row tile slot. -/
def slotChunk (Z : Vec F S42x128x768 .f32) (t : ℕ) (ht : t < 42) (c : ℕ) (hc : c < 6) : Vec F S1x128x128 .f32 :=
  VecWindow.window Z ![t, 0, 128 * c] S1x128x128.size
    (fun a => by fin_cases a <;> simp [S1x128x128, S42x128x768] <;> omega)

/-- The weighted gradient of one chunk of lanes. -/
def gradChunk (lt ls : Vec F S128x128 .f32) (zt zs : Vec F S1x128x128 .f32) : FVec F S128x128 .f32 :=
  k0_pay100 (k0_pay96 ls zs) (k0_pay97 lt ls zt zs) k0_pay99

/-- The lane sums of the divergence after one tile: six chunks in turn. -/
def jsdTile (lt ls : Vec F S128x128 .f32) (zt zs : Fin 6 → Vec F S1x128x128 .f32) (jsd : Vec F S128x128 .f32) : FVec F S128x128 .f32 :=
  k0_pay98 lt ls (k0_pay98 lt ls (k0_pay98 lt ls (k0_pay98 lt ls (k0_pay98 lt ls (k0_pay98 lt ls jsd (zt 0) (zs 0))
    (zt 1) (zs 1)) (zt 2) (zs 2)) (zt 3) (zs 3)) (zt 4) (zs 4)) (zt 5) (zs 5)

/-- The lane sums of the weighted gradient after one tile: six chunks in turn. -/
def gradSumTile (lt ls : Vec F S128x128 .f32) (zt zs : Fin 6 → Vec F S1x128x128 .f32) (s : Vec F S128x128 .f32) : FVec F S128x128 .f32 :=
  addf (addf (addf (addf (addf (addf s (gradChunk lt ls (zt 0) (zs 0))) (gradChunk lt ls (zt 1) (zs 1)))
    (gradChunk lt ls (zt 2) (zs 2))) (gradChunk lt ls (zt 3) (zs 3))) (gradChunk lt ls (zt 4) (zs 4))) (gradChunk lt ls (zt 5) (zs 5))

/-- The rows of the gradient product: 128 rows of weighted gradients over 128 rows of student probabilities. -/
def gradRows (lt ls : Vec F S128x128 .f32) (zt zs : Fin 6 → Vec F S1x128x128 .f32) : FVec F S256x768 .bf16 :=
  concatenate S256x768 0 [
    ⟨S128x768, concatenate S128x768 1 [⟨S128x128, truncf .bf16 (gradChunk lt ls (zt 0) (zs 0)) bitsLt_bf16_f32⟩,
      ⟨S128x128, truncf .bf16 (gradChunk lt ls (zt 1) (zs 1)) bitsLt_bf16_f32⟩, ⟨S128x128, truncf .bf16 (gradChunk lt ls (zt 2) (zs 2)) bitsLt_bf16_f32⟩,
      ⟨S128x128, truncf .bf16 (gradChunk lt ls (zt 3) (zs 3)) bitsLt_bf16_f32⟩, ⟨S128x128, truncf .bf16 (gradChunk lt ls (zt 4) (zs 4)) bitsLt_bf16_f32⟩,
      ⟨S128x128, truncf .bf16 (gradChunk lt ls (zt 5) (zs 5)) bitsLt_bf16_f32⟩]
      concatenates_S128x128_S128x128_S128x128_S128x128_S128x128_S128x128_S128x768_d1⟩,
    ⟨S128x768, concatenate S128x768 1 [⟨S128x128, truncf .bf16 (k0_pay96 ls (zs 0)) bitsLt_bf16_f32⟩,
      ⟨S128x128, truncf .bf16 (k0_pay96 ls (zs 1)) bitsLt_bf16_f32⟩, ⟨S128x128, truncf .bf16 (k0_pay96 ls (zs 2)) bitsLt_bf16_f32⟩,
      ⟨S128x128, truncf .bf16 (k0_pay96 ls (zs 3)) bitsLt_bf16_f32⟩, ⟨S128x128, truncf .bf16 (k0_pay96 ls (zs 4)) bitsLt_bf16_f32⟩,
      ⟨S128x128, truncf .bf16 (k0_pay96 ls (zs 5)) bitsLt_bf16_f32⟩]
      concatenates_S128x128_S128x128_S128x128_S128x128_S128x128_S128x128_S128x768_d1⟩]
    concatenates_S128x768_S128x768_S256x768_d0

/-- Columns `256 j` to `256 j + 255` of the gradient accumulator after one tile. -/
def accBlock (n : BitVec 32) (rows : FVec F S256x768 .bf16) (ws : Vec F S1x768 .f32) (w : Vec F S768x3072 .fp8e4m3)
    (acc : Vec F S256x3072 .f32) (j : ℕ) (hj : j < 12) : FVec F S256x256 .f32 :=
  k0_pay155 rows (k0_pay153 n) ws
    (VecWindow.window w ![0, 256 * j] S768x256.size (fun a => by fin_cases a <;> simp [S768x256, S768x3072] <;> omega))
    (VecWindow.window acc ![0, 256 * j] S256x256.size (fun a => by fin_cases a <;> simp [S256x256, S256x3072] <;> omega))

/-- The gradient accumulator after one tile. -/
def accTile (n : BitVec 32) (rows : FVec F S256x768 .bf16) (ws : Vec F S1x768 .f32) (w : Vec F S768x3072 .fp8e4m3)
    (acc : Vec F S256x3072 .f32) : Vec F S256x3072 .f32 := fun y =>
  accBlock n rows ws w acc ((y 1).val / 256) (Nat.div_lt_of_lt_mul (y 1).isLt)
    (ValueIdx.ix2 (n0 := 256) (n1 := 256) (y 0) ⟨(y 1).val % 256, Nat.mod_lt _ (by decide)⟩)

/-- The normalised student rows, their reciprocal norms, codes, scales, and the normalised teacher rows. -/
def studentCodes (idx : Vec F S128x1 .i32) (x : Vec F S256x3072 .bf16) (gs : Vec F S1x3072 .f32) : FVec F S128x3072 .fp8e4m3 :=
  k0_pay25 (k0_pay20 idx x gs) (k0_pay22 idx x gs) (k0_pay23 idx x gs)

def studentScales (idx : Vec F S128x1 .i32) (x : Vec F S256x3072 .bf16) (gs : Vec F S1x3072 .f32) : FVec F S128x1 .f32 :=
  k0_pay24 (k0_pay22 idx x gs) (k0_pay23 idx x gs)

def teacherRows (idx : Vec F S128x1 .i32) (h : Vec F S256x5120 .bf16) (gt : Vec F S1x5120 .f32) : FVec F S128x5120 .bf16 :=
  k0_pay26 (k0_pay14 idx) h gt

/-- The upper and lower halves of the gradient accumulator. -/
def accTop (acc : Vec F S256x3072 .f32) : Vec F S128x3072 .f32 :=
  VecWindow.window acc ![0, 0] S128x3072.size (fun a => by fin_cases a <;> simp [S128x3072, S256x3072])

def accBottom (acc : Vec F S256x3072 .f32) : Vec F S128x3072 .f32 :=
  VecWindow.window acc ![128, 0] S128x3072.size (fun a => by fin_cases a <;> simp [S128x3072, S256x3072])

/-- The gradient by the student input. -/
def gradInput (cnt : Elt F .i32) (s : Vec F S128x128 .f32) (acc : Vec F S256x3072 .f32) (gs : Vec F S1x3072 .f32)
    (n : Vec F S128x3072 .f32) (r : Vec F S128x1 .f32) : FVec F S128x3072 .bf16 :=
  k0_pay13 (k0_pay177 cnt s (accTop acc) (accBottom acc) gs) n r
    (k0_pay178 cnt s (accTop acc) (accBottom acc) gs n) (Scalar.ofBits .f32 0x45400000#32)

end Cert.KernelIdeal.Hand
-- ==== Proof.Hand.Track.Spec.lean ====
module

public import proofs.«01_k».proof.Proof.Hand.Steps
public import proofs.«01_k».proof.Proof.Gen.KernelIdeal.Launch
public import proofs.«01_k».proof.Proof.Gen.KernelIdeal.Points

/-! # What the buffers hold between grid points -/

@[expose] public section

noncomputable section

namespace Cert.KernelIdeal.Track

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

/-- An input block at a point, as its fetch brings it (anything outside the array). -/
def blk (c : Dev nD) (w : Fin cfg0.W) (t : Fin cfg0.N) : (cfg0.win w).block.Idx → Elt Ideal (cfg0.win w).elt :=
  (cfg0.win w).fill (cfg0.grid.coords t) (fun _ => Classical.arbitrary _)
    (((cfg0.win w).blk t).view.read (Elt Ideal) (V m c (Pipeline.arrRef spec0 w)))

/-- The first grid point. -/
def t0 : Fin cfg0.N := ⟨0, by decide⟩

/-- The normalised teacher rows. -/
def HT (c : Dev nD) : Vec Ideal S128x5120 .bf16 := teacherRows (blk m c 1 t0) (blk m c 3 t0) (blk m c 5 t0)
/-- The student codes. -/
def YC (c : Dev nD) : Vec Ideal S128x3072 .fp8e4m3 := studentCodes (blk m c 1 t0) (blk m c 2 t0) (blk m c 4 t0)
/-- The student scales. -/
def YS (c : Dev nD) : Vec Ideal S128x1 .f32 := studentScales (blk m c 1 t0) (blk m c 2 t0) (blk m c 4 t0)

/-- The scaled teacher logits of a tile. -/
def zT (c : Dev nD) (t : Fin cfg0.N) : Vec Ideal S128x768 .f32 :=
  teacherTile (BitVec.ofNat 32 t.val) (blk m c 6 t) (blk m c 7 t) (blk m c 8 t) (HT m c)
/-- The scaled student logits of a tile. -/
def zS (c : Dev nD) (t : Fin cfg0.N) : Vec Ideal S128x768 .f32 :=
  studentTile (BitVec.ofNat 32 t.val) (YC m c) (blk m c 9 t) (YS m c) (blk m c 10 t)

/-- The lane maxima and sums after the first `n` tiles. -/
def stat (z : Fin cfg0.N → Vec Ideal S128x768 .f32) (i : Vec Ideal S128x128 .f32 × Vec Ideal S128x128 .f32) :
    ℕ → Vec Ideal S128x128 .f32 × Vec Ideal S128x128 .f32
  | 0 => i
  | n + 1 => if h : n < cfg0.N then (foldMax (z ⟨n, h⟩) (stat z i n).1, foldSum (z ⟨n, h⟩) (stat z i n).1 (stat z i n).2)
      else i

theorem stat_succ (z : Fin cfg0.N → Vec Ideal S128x768 .f32) (i : Vec Ideal S128x128 .f32 × Vec Ideal S128x128 .f32)
    (t : Fin cfg0.N) : stat z i (t.val + 1) = (foldMax (z t) (stat z i t.val).1, foldSum (z t) (stat z i t.val).1 (stat z i t.val).2) := by
  show (if h : t.val < cfg0.N then _ else _) = _
  rw [dif_pos t.isLt]

def statT (c : Dev nD) (n : ℕ) := stat (zT m c) (k0_pay27 (F := Ideal), k0_pay2 (F := Ideal)) n
def statS (c : Dev nD) (n : ℕ) := stat (zS m c) (k0_pay1 (F := Ideal), k0_pay3 (F := Ideal)) n

/-- The two logsumexps. -/
def LT (c : Dev nD) : Vec Ideal S128x1 .f32 := k0_pay91 (statT m c 42).1 (statT m c 42).2
def LS (c : Dev nD) : Vec Ideal S128x1 .f32 := k0_pay7 (k0_pay92 (statS m c 42).1 (statS m c 42).2)

/-- From point 1 to point 42 the scratch holds the teacher rows and the running lane statistics. -/
def Inv (c : Dev nD) (t : ℕ) (e21 : Vec Ideal S128x5120 .bf16) (e25 e26 e27 e28 : Vec Ideal S128x128 .f32) : Prop :=
  0 < t → t ≤ 42 → e21 = HT m c ∧ e25 = (statT m c t).1 ∧ e26 = (statT m c t).2 ∧ e27 = (statS m c t).1 ∧ e28 = (statS m c t).2

/-- The contents a fetch may bring: the array's block, and anything outside the array. -/
def Brings (c : Dev nD) (w : Fin cfg0.W) (t : Fin cfg0.N) (X : (cfg0.win w).block.Idx → Elt Ideal (cfg0.win w).elt) : Prop :=
  ∃ d, X = (cfg0.win w).fill (cfg0.grid.coords t) d
    (((cfg0.win w).blk t).view.read (Elt Ideal) (V m c (Pipeline.arrRef spec0 w)))

theorem coord0 : ∀ t : Fin cfg0.N, (grid0.coords t 0).val = t.val := by decide +kernel

end Cert.KernelIdeal.Track

end
-- ==== Proof.Hand.Track.Blocks.lean ====
module

public import proofs.«01_k».proof.Proof.Hand.Track.Spec
public import Idealize.ShloMosaic.Lib.Pointwise
public import Idealize.ShloMosaic.Lib.StableHlo.ReadAt

/-! # The windows' blocks, at an index -/

@[expose] public section

set_option maxRecDepth 4000

noncomputable section

namespace Cert.KernelIdeal.Track

open Cert.KernelIdeal Cert.KernelIdeal.Gen Cert.KernelIdeal.Hand
open Idealize.ShloMosaic Idealize.ShloMosaic.TcCoe Idealize.SL.Sem
open Idealize.ShloMosaic.Pipeline (RDat Cfg Window)

variable (m : (ℓ : Loc nD τ sig) → Buf (Elt Ideal) ℓ)

theorem blk_brings (c : Dev nD) (w : Fin cfg0.W) (t : Fin cfg0.N) : Brings m c w t (blk m c w t) := ⟨_, rfl⟩

theorem geo6 : ∀ t : Fin cfg0.N, t.val < 42 → (cfg0.win 6).xsize (cfg0.grid.coords t) 0 = 2560 ∧ (cfg0.win 6).xsize (cfg0.grid.coords t) 1 = min 768 (32064 - 768 * t.val)
    ∧ ((cfg0.win 6).xrect (cfg0.grid.coords t)).off 0 = 0 ∧ ((cfg0.win 6).xrect (cfg0.grid.coords t)).off 1 = 768 * t.val := by decide +kernel

/-- Window 6: inside the vocabulary, the array's own columns. -/
theorem brings6 (c : Dev nD) (t : Fin cfg0.N) (ht : t.val < 42) (X : Vec Ideal S2560x768 .i8) (h : Brings m c 6 t X) (i : Fin 2560) (k : Fin 768)
    (hk : 768 * t.val + k.val < 32064) : X (ix2 i k) = V m c main_arg4 (ix2 i ⟨768 * t.val + k.val, hk⟩) := by
  obtain ⟨d, rfl⟩ := h
  obtain ⟨h1, h2, h3, h4⟩ := geo6 t ht
  have hm : (cfg0.win 6).moved (cfg0.grid.coords t) (ix2 i k) = true := by
    refine ((cfg0.win 6).moved_iff _ _).mpr fun a => ?_
    fin_cases a
    · refine lt_of_lt_of_eq ?_ h1.symm
      have := i.isLt
      show i.val < _
      omega
    · refine lt_of_lt_of_eq ?_ h2.symm
      have := k.isLt
      show k.val < _
      omega
  unfold Window.fill
  rw [dif_pos hm]
  refine congrArg (V m c main_arg4) (funext fun a => Fin.ext ?_)
  fin_cases a
  · show ((cfg0.win 6).xrect (cfg0.grid.coords t)).off 0 + 1 * i.val = i.val
    rw [h3]; omega
  · show ((cfg0.win 6).xrect (cfg0.grid.coords t)).off 1 + 1 * k.val = 768 * t.val + k.val
    rw [h4]; omega

theorem geo7 : ∀ t : Fin cfg0.N, t.val < 42 → (cfg0.win 7).xsize (cfg0.grid.coords t) 0 = 40 ∧ (cfg0.win 7).xsize (cfg0.grid.coords t) 1 = min 768 (32064 - 768 * t.val)
    ∧ ((cfg0.win 7).xrect (cfg0.grid.coords t)).off 0 = 0 ∧ ((cfg0.win 7).xrect (cfg0.grid.coords t)).off 1 = 768 * t.val := by decide +kernel

/-- Window 7: inside the vocabulary, the array's own columns. -/
theorem brings7 (c : Dev nD) (t : Fin cfg0.N) (ht : t.val < 42) (X : Vec Ideal S40x768 .f32) (h : Brings m c 7 t X) (i : Fin 40) (k : Fin 768)
    (hk : 768 * t.val + k.val < 32064) : X (ix2 i k) = V m c main_arg5 (ix2 i ⟨768 * t.val + k.val, hk⟩) := by
  obtain ⟨d, rfl⟩ := h
  obtain ⟨h1, h2, h3, h4⟩ := geo7 t ht
  have hm : (cfg0.win 7).moved (cfg0.grid.coords t) (ix2 i k) = true := by
    refine ((cfg0.win 7).moved_iff _ _).mpr fun a => ?_
    fin_cases a
    · refine lt_of_lt_of_eq ?_ h1.symm
      have := i.isLt
      show i.val < _
      omega
    · refine lt_of_lt_of_eq ?_ h2.symm
      have := k.isLt
      show k.val < _
      omega
  unfold Window.fill
  rw [dif_pos hm]
  refine congrArg (V m c main_arg5) (funext fun a => Fin.ext ?_)
  fin_cases a
  · show ((cfg0.win 7).xrect (cfg0.grid.coords t)).off 0 + 1 * i.val = i.val
    rw [h3]; omega
  · show ((cfg0.win 7).xrect (cfg0.grid.coords t)).off 1 + 1 * k.val = 768 * t.val + k.val
    rw [h4]; omega

theorem geo8 : ∀ t : Fin cfg0.N, t.val < 42 → (cfg0.win 8).xsize (cfg0.grid.coords t) 0 = 40 ∧ (cfg0.win 8).xsize (cfg0.grid.coords t) 1 = min 768 (32064 - 768 * t.val)
    ∧ ((cfg0.win 8).xrect (cfg0.grid.coords t)).off 0 = 0 ∧ ((cfg0.win 8).xrect (cfg0.grid.coords t)).off 1 = 768 * t.val := by decide +kernel

/-- Window 8: inside the vocabulary, the array's own columns. -/
theorem brings8 (c : Dev nD) (t : Fin cfg0.N) (ht : t.val < 42) (X : Vec Ideal S40x768 .f32) (h : Brings m c 8 t X) (i : Fin 40) (k : Fin 768)
    (hk : 768 * t.val + k.val < 32064) : X (ix2 i k) = V m c main_arg6 (ix2 i ⟨768 * t.val + k.val, hk⟩) := by
  obtain ⟨d, rfl⟩ := h
  obtain ⟨h1, h2, h3, h4⟩ := geo8 t ht
  have hm : (cfg0.win 8).moved (cfg0.grid.coords t) (ix2 i k) = true := by
    refine ((cfg0.win 8).moved_iff _ _).mpr fun a => ?_
    fin_cases a
    · refine lt_of_lt_of_eq ?_ h1.symm
      have := i.isLt
      show i.val < _
      omega
    · refine lt_of_lt_of_eq ?_ h2.symm
      have := k.isLt
      show k.val < _
      omega
  unfold Window.fill
  rw [dif_pos hm]
  refine congrArg (V m c main_arg6) (funext fun a => Fin.ext ?_)
  fin_cases a
  · show ((cfg0.win 8).xrect (cfg0.grid.coords t)).off 0 + 1 * i.val = i.val
    rw [h3]; omega
  · show ((cfg0.win 8).xrect (cfg0.grid.coords t)).off 1 + 1 * k.val = 768 * t.val + k.val
    rw [h4]; omega

theorem geo9 : ∀ t : Fin cfg0.N, t.val < 42 → (cfg0.win 9).xsize (cfg0.grid.coords t) 0 = min 768 (32064 - 768 * t.val) ∧ (cfg0.win 9).xsize (cfg0.grid.coords t) 1 = 3072
    ∧ ((cfg0.win 9).xrect (cfg0.grid.coords t)).off 0 = 768 * t.val ∧ ((cfg0.win 9).xrect (cfg0.grid.coords t)).off 1 = 0 := by decide +kernel

/-- Window 9: inside the vocabulary, the array's own columns. -/
theorem brings9 (c : Dev nD) (t : Fin cfg0.N) (ht : t.val < 42) (X : Vec Ideal S768x3072 .fp8e4m3) (h : Brings m c 9 t X) (i : Fin 768) (k : Fin 3072)
    (hk : 768 * t.val + i.val < 32064) : X (ix2 i k) = V m c main_arg7 (ix2 ⟨768 * t.val + i.val, hk⟩ k) := by
  obtain ⟨d, rfl⟩ := h
  obtain ⟨h1, h2, h3, h4⟩ := geo9 t ht
  have hm : (cfg0.win 9).moved (cfg0.grid.coords t) (ix2 i k) = true := by
    refine ((cfg0.win 9).moved_iff _ _).mpr fun a => ?_
    fin_cases a
    · refine lt_of_lt_of_eq ?_ h1.symm
      have := i.isLt
      show i.val < _
      omega
    · refine lt_of_lt_of_eq ?_ h2.symm
      have := k.isLt
      show k.val < _
      omega
  unfold Window.fill
  rw [dif_pos hm]
  refine congrArg (V m c main_arg7) (funext fun a => Fin.ext ?_)
  fin_cases a
  · show ((cfg0.win 9).xrect (cfg0.grid.coords t)).off 0 + 1 * i.val = 768 * t.val + i.val
    rw [h3]; omega
  · show ((cfg0.win 9).xrect (cfg0.grid.coords t)).off 1 + 1 * k.val = k.val
    rw [h4]; omega

theorem geo10 : ∀ t : Fin cfg0.N, t.val < 42 → (cfg0.win 10).xsize (cfg0.grid.coords t) 0 = 1 ∧ (cfg0.win 10).xsize (cfg0.grid.coords t) 1 = min 768 (32064 - 768 * t.val)
    ∧ ((cfg0.win 10).xrect (cfg0.grid.coords t)).off 0 = 0 ∧ ((cfg0.win 10).xrect (cfg0.grid.coords t)).off 1 = 768 * t.val := by decide +kernel

/-- Window 10: inside the vocabulary, the array's own columns. -/
theorem brings10 (c : Dev nD) (t : Fin cfg0.N) (ht : t.val < 42) (X : Vec Ideal S1x768 .f32) (h : Brings m c 10 t X) (i : Fin 1) (k : Fin 768)
    (hk : 768 * t.val + k.val < 32064) : X (ix2 i k) = V m c main_v5 (ix2 i ⟨768 * t.val + k.val, hk⟩) := by
  obtain ⟨d, rfl⟩ := h
  obtain ⟨h1, h2, h3, h4⟩ := geo10 t ht
  have hm : (cfg0.win 10).moved (cfg0.grid.coords t) (ix2 i k) = true := by
    refine ((cfg0.win 10).moved_iff _ _).mpr fun a => ?_
    fin_cases a
    · refine lt_of_lt_of_eq ?_ h1.symm
      have := i.isLt
      show i.val < _
      omega
    · refine lt_of_lt_of_eq ?_ h2.symm
      have := k.isLt
      show k.val < _
      omega
  unfold Window.fill
  rw [dif_pos hm]
  refine congrArg (V m c main_v5) (funext fun a => Fin.ext ?_)
  fin_cases a
  · show ((cfg0.win 10).xrect (cfg0.grid.coords t)).off 0 + 1 * i.val = i.val
    rw [h3]; omega
  · show ((cfg0.win 10).xrect (cfg0.grid.coords t)).off 1 + 1 * k.val = 768 * t.val + k.val
    rw [h4]; omega

theorem geo1 : (cfg0.win 1).xsize (cfg0.grid.coords t0) 0 = 128 ∧ (cfg0.win 1).xsize (cfg0.grid.coords t0) 1 = 1
    ∧ ((cfg0.win 1).xrect (cfg0.grid.coords t0)).off 0 = 0 ∧ ((cfg0.win 1).xrect (cfg0.grid.coords t0)).off 1 = 0 := by decide +kernel

/-- Window 1: the whole array. -/
theorem blk1 (c : Dev nD) (i : Fin 128) (k : Fin 1) : blk m c 1 t0 (ix2 i k) = V m c main_v2 (ix2 i k) := by
  obtain ⟨h1, h2, h3, h4⟩ := geo1
  have hm : (cfg0.win 1).moved (cfg0.grid.coords t0) (ix2 i k) = true := by
    refine ((cfg0.win 1).moved_iff _ _).mpr fun a => ?_
    fin_cases a
    · exact lt_of_lt_of_eq i.isLt h1.symm
    · exact lt_of_lt_of_eq k.isLt h2.symm
  unfold blk Window.fill
  rw [dif_pos hm]
  refine congrArg (V m c main_v2) (funext fun a => Fin.ext ?_)
  fin_cases a
  · show ((cfg0.win 1).xrect (cfg0.grid.coords t0)).off 0 + 1 * i.val = i.val
    rw [h3]; omega
  · show ((cfg0.win 1).xrect (cfg0.grid.coords t0)).off 1 + 1 * k.val = k.val
    rw [h4]; omega

theorem geo2 : (cfg0.win 2).xsize (cfg0.grid.coords t0) 0 = 256 ∧ (cfg0.win 2).xsize (cfg0.grid.coords t0) 1 = 3072
    ∧ ((cfg0.win 2).xrect (cfg0.grid.coords t0)).off 0 = 0 ∧ ((cfg0.win 2).xrect (cfg0.grid.coords t0)).off 1 = 0 := by decide +kernel

/-- Window 2: the whole array. -/
theorem blk2 (c : Dev nD) (i : Fin 256) (k : Fin 3072) : blk m c 2 t0 (ix2 i k) = V m c main_v0 (ix2 i k) := by
  obtain ⟨h1, h2, h3, h4⟩ := geo2
  have hm : (cfg0.win 2).moved (cfg0.grid.coords t0) (ix2 i k) = true := by
    refine ((cfg0.win 2).moved_iff _ _).mpr fun a => ?_
    fin_cases a
    · exact lt_of_lt_of_eq i.isLt h1.symm
    · exact lt_of_lt_of_eq k.isLt h2.symm
  unfold blk Window.fill
  rw [dif_pos hm]
  refine congrArg (V m c main_v0) (funext fun a => Fin.ext ?_)
  fin_cases a
  · show ((cfg0.win 2).xrect (cfg0.grid.coords t0)).off 0 + 1 * i.val = i.val
    rw [h3]; omega
  · show ((cfg0.win 2).xrect (cfg0.grid.coords t0)).off 1 + 1 * k.val = k.val
    rw [h4]; omega

theorem geo3 : (cfg0.win 3).xsize (cfg0.grid.coords t0) 0 = 256 ∧ (cfg0.win 3).xsize (cfg0.grid.coords t0) 1 = 5120
    ∧ ((cfg0.win 3).xrect (cfg0.grid.coords t0)).off 0 = 0 ∧ ((cfg0.win 3).xrect (cfg0.grid.coords t0)).off 1 = 0 := by decide +kernel

/-- Window 3: the whole array. -/
theorem blk3 (c : Dev nD) (i : Fin 256) (k : Fin 5120) : blk m c 3 t0 (ix2 i k) = V m c main_v1 (ix2 i k) := by
  obtain ⟨h1, h2, h3, h4⟩ := geo3
  have hm : (cfg0.win 3).moved (cfg0.grid.coords t0) (ix2 i k) = true := by
    refine ((cfg0.win 3).moved_iff _ _).mpr fun a => ?_
    fin_cases a
    · exact lt_of_lt_of_eq i.isLt h1.symm
    · exact lt_of_lt_of_eq k.isLt h2.symm
  unfold blk Window.fill
  rw [dif_pos hm]
  refine congrArg (V m c main_v1) (funext fun a => Fin.ext ?_)
  fin_cases a
  · show ((cfg0.win 3).xrect (cfg0.grid.coords t0)).off 0 + 1 * i.val = i.val
    rw [h3]; omega
  · show ((cfg0.win 3).xrect (cfg0.grid.coords t0)).off 1 + 1 * k.val = k.val
    rw [h4]; omega

theorem geo4 : (cfg0.win 4).xsize (cfg0.grid.coords t0) 0 = 1 ∧ (cfg0.win 4).xsize (cfg0.grid.coords t0) 1 = 3072
    ∧ ((cfg0.win 4).xrect (cfg0.grid.coords t0)).off 0 = 0 ∧ ((cfg0.win 4).xrect (cfg0.grid.coords t0)).off 1 = 0 := by decide +kernel

/-- Window 4: the whole array. -/
theorem blk4 (c : Dev nD) (i : Fin 1) (k : Fin 3072) : blk m c 4 t0 (ix2 i k) = V m c main_v3 (ix2 i k) := by
  obtain ⟨h1, h2, h3, h4⟩ := geo4
  have hm : (cfg0.win 4).moved (cfg0.grid.coords t0) (ix2 i k) = true := by
    refine ((cfg0.win 4).moved_iff _ _).mpr fun a => ?_
    fin_cases a
    · exact lt_of_lt_of_eq i.isLt h1.symm
    · exact lt_of_lt_of_eq k.isLt h2.symm
  unfold blk Window.fill
  rw [dif_pos hm]
  refine congrArg (V m c main_v3) (funext fun a => Fin.ext ?_)
  fin_cases a
  · show ((cfg0.win 4).xrect (cfg0.grid.coords t0)).off 0 + 1 * i.val = i.val
    rw [h3]; omega
  · show ((cfg0.win 4).xrect (cfg0.grid.coords t0)).off 1 + 1 * k.val = k.val
    rw [h4]; omega

theorem geo5 : (cfg0.win 5).xsize (cfg0.grid.coords t0) 0 = 1 ∧ (cfg0.win 5).xsize (cfg0.grid.coords t0) 1 = 5120
    ∧ ((cfg0.win 5).xrect (cfg0.grid.coords t0)).off 0 = 0 ∧ ((cfg0.win 5).xrect (cfg0.grid.coords t0)).off 1 = 0 := by decide +kernel

/-- Window 5: the whole array. -/
theorem blk5 (c : Dev nD) (i : Fin 1) (k : Fin 5120) : blk m c 5 t0 (ix2 i k) = V m c main_v4 (ix2 i k) := by
  obtain ⟨h1, h2, h3, h4⟩ := geo5
  have hm : (cfg0.win 5).moved (cfg0.grid.coords t0) (ix2 i k) = true := by
    refine ((cfg0.win 5).moved_iff _ _).mpr fun a => ?_
    fin_cases a
    · exact lt_of_lt_of_eq i.isLt h1.symm
    · exact lt_of_lt_of_eq k.isLt h2.symm
  unfold blk Window.fill
  rw [dif_pos hm]
  refine congrArg (V m c main_v4) (funext fun a => Fin.ext ?_)
  fin_cases a
  · show ((cfg0.win 5).xrect (cfg0.grid.coords t0)).off 0 + 1 * i.val = i.val
    rw [h3]; omega
  · show ((cfg0.win 5).xrect (cfg0.grid.coords t0)).off 1 + 1 * k.val = k.val
    rw [h4]; omega

theorem v0_apply (c : Dev nD) (i : Fin 256) (k : Fin 3072) :
    V m c main_v0 (ix2 i k) = m ((c : Thread nD τ).loc main_arg0) (ix3 ⟨i.val / 128, by omega⟩ ⟨i.val % 128, by omega⟩ k) := by
  unfold V
  after_reads_simp
  pointwise

theorem v1_apply (c : Dev nD) (i : Fin 256) (k : Fin 5120) :
    V m c main_v1 (ix2 i k) = m ((c : Thread nD τ).loc main_arg1) (ix3 ⟨i.val / 128, by omega⟩ ⟨i.val % 128, by omega⟩ k) := by
  unfold V
  after_reads_simp
  pointwise

theorem v2_apply (c : Dev nD) (i : Fin 128) : V m c main_v2 (ix2 i 0) = m ((c : Thread nD τ).loc main_arg9) (ix1 i) := by
  unfold V
  after_reads_simp
  pointwise

theorem v3_apply (c : Dev nD) (k : Fin 3072) : V m c main_v3 (ix2 0 k) = m ((c : Thread nD τ).loc main_arg2) (ix1 k) := by
  unfold V
  after_reads_simp
  pointwise

theorem v4_apply (c : Dev nD) (k : Fin 5120) : V m c main_v4 (ix2 0 k) = m ((c : Thread nD τ).loc main_arg3) (ix1 k) := by
  unfold V
  after_reads_simp
  pointwise

theorem v5_apply (c : Dev nD) (k : Fin 32064) : V m c main_v5 (ix2 0 k) = m ((c : Thread nD τ).loc main_arg8) (ix1 k) := by
  unfold V
  after_reads_simp
  pointwise

end Cert.KernelIdeal.Track

end
-- ==== Proof.Hand.Value.KerTile.lean ====
module

public import proofs.«01_k».proof.Proof.Hand.Steps
public import Idealize.ShloMosaic.Lib.Pointwise

/-! # The kernel's logit tiles, at an index -/

@[expose] public section

set_option maxHeartbeats 2000000

noncomputable section

namespace Cert.KernelIdeal.Val

open Cert.KernelIdeal Cert.KernelIdeal.Gen Cert.KernelIdeal.Hand
open Idealize.ShloMosaic Idealize.ShloMosaic.TcCoe Idealize.SL.Sem

/-- An even number of terms, two at a time. -/
theorem sum_pairs (f : ℕ → EReal) (n : ℕ) :
    ∑ x ∈ Finset.range (2 * n), f x = ∑ y ∈ Finset.range n, (f (2 * y) + f (2 * y + 1)) := by
  induction n with
  | zero => rfl
  | succ n ih => rw [Nat.mul_succ, Finset.sum_range_succ, Finset.sum_range_succ, ih, Finset.sum_range_succ, add_assoc]

/-- One packed row's share of a teacher logit: the low field by an even column, the high field by the odd one. -/
def packed (pk : BitVec 8) (s z a b : EReal) : EReal :=
  a * ((FloatOps.sitofp (F := Ideal) FTy.bf16 (IntOp.andi (BitVec.setWidth 32 pk) 15#32) - z) * s)
    + b * ((FloatOps.sitofp (F := Ideal) FTy.bf16 (IntOp.shrsi ArithUnit.vector (BitVec.setWidth 32 pk) 4#32) - z) * s)

/-- The share of packed row `p` in the logit at row `r` and tile column `k`. -/
def share (pk : Vec Ideal S2560x768 .i8) (sc ze : Vec Ideal S40x768 .f32) (ht : Vec Ideal S128x5120 .bf16) (r : Fin 128) (k : Fin 768)
    (p : ℕ) : EReal :=
  if h : p < 2560 then packed (pk (ix2 ⟨p, h⟩ k)) (sc (ix2 ⟨p / 64, by omega⟩ k)) (ze (ix2 ⟨p / 64, by omega⟩ k))
    (ht (ix2 r ⟨2 * p, by omega⟩)) (ht (ix2 r ⟨2 * p + 1, by omega⟩)) else 0

theorem ht_window (ht : Vec Ideal S128x5120 .bf16) (k : ℕ) (hk : k < 20) (r : Fin 128) (j : Fin 256) (hh : ∀ a, (![0, 256 * k] : Fin 2 → ℕ) a + (![128, 256] : Fin 2 → ℕ) a ≤ S128x5120.size a) :
    VecWindow.window ht ![0, 256 * k] ![128, 256] hh (ix2 r j) = ht (ix2 r ⟨256 * k + j.val, by omega⟩) := by
  refine congrArg ht (funext fun a => Fin.ext ?_)
  fin_cases a
  · show 0 + 1 * r.val = r.val
    omega
  · show 256 * k + 1 * j.val = 256 * k + j.val
    omega

theorem pk_window (pk : Vec Ideal S2560x768 .i8) (k : ℕ) (hk : k < 20) (i : Fin 128) (j : Fin 768) (hh : ∀ a, (![128 * k, 0] : Fin 2 → ℕ) a + (![128, 768] : Fin 2 → ℕ) a ≤ S2560x768.size a) :
    VecWindow.window pk ![128 * k, 0] ![128, 768] hh (ix2 i j) = pk (ix2 ⟨128 * k + i.val, by omega⟩ j) := by
  refine congrArg pk (funext fun a => Fin.ext ?_)
  fin_cases a
  · show 128 * k + 1 * i.val = 128 * k + i.val
    omega
  · show 0 + 1 * j.val = j.val
    omega

theorem sc_window (sc : Vec Ideal S40x768 .f32) (q : ℕ) (hq : q < 40) (j : Fin 768) (hh : ∀ a, (![q, 0] : Fin 2 → ℕ) a + (![1, 768] : Fin 2 → ℕ) a ≤ S40x768.size a) :
    VecWindow.window sc ![q, 0] ![1, 768] hh (ix2 0 j) = sc (ix2 ⟨q, hq⟩ j) := by
  refine congrArg sc (funext fun a => Fin.ext ?_)
  fin_cases a
  · show q + 1 * 0 = q
    omega
  · show 0 + 1 * j.val = j.val
    omega

/-- A group of 128 columns: 64 packed rows. -/
theorem half_sum (f : Fin 128 → EReal) (T : ℕ → EReal) (n : ℕ)
    (h : ∀ y (hy : y < 64), f ⟨2 * y, by omega⟩ + f ⟨2 * y + 1, by omega⟩ = T (n + y)) :
    ∑ x, f x = ∑ y ∈ Finset.range 64, T (n + y) := by
  have e : ∑ x : Fin 128, f x = ∑ x ∈ Finset.range (2 * 64), (fun x => if h : x < 128 then f ⟨x, h⟩ else 0) x := by
    rw [Finset.sum_range]
    refine Finset.sum_congr rfl fun x _ => ?_
    show f x = if h : x.val < 128 then f ⟨x.val, h⟩ else 0
    rw [dif_pos x.isLt]
  rw [e, sum_pairs]
  refine Finset.sum_congr rfl fun y hy => ?_
  have hy := Finset.mem_range.mp hy
  rw [← h y hy]
  show (if h : 2 * y < 128 then f ⟨2 * y, h⟩ else 0) + (if h : 2 * y + 1 < 128 then f ⟨2 * y + 1, h⟩ else 0) = _
  rw [dif_pos (by omega), dif_pos (by omega)]

theorem chunk_step (pk : Vec Ideal S2560x768 .i8) (sc ze : Vec Ideal S40x768 .f32) (ht : Vec Ideal S128x5120 .bf16) (r : Fin 128) (k' : Fin 768)
    (k : ℕ) (hk : k < 20) (acc : FVec Ideal S128x768 .f32)
    (h : acc (ix2 r k') = ∑ p ∈ Finset.range (128 * k), share pk sc ze ht r k' p) :
    teacherChunk pk sc ze ht k hk acc (ix2 r k') = ∑ p ∈ Finset.range (128 * (k + 1)), share pk sc ze ht r k' p := by
  rw [show 128 * (k + 1) = 128 * k + 64 + 64 by omega, Finset.sum_range_add, Finset.sum_range_add, ← h, add_assoc]
  unfold teacherChunk
  pointwise [k0_pay30]
  refine congrArg (acc (ix2 r k') + ·) (congrArg₂ (· + ·) (half_sum _ _ _ fun y hy => ?_) (half_sum _ _ _ fun y hy => ?_))
  · have lt : 128 * k + y < 2560 := by omega
    unfold share packed
    have e1 : 2 * y % 2 < 1 := by omega
    have e2 : ¬ (2 * y + 1) % 2 < 1 := by omega
    have e3 : (2 * y + 1) / 2 = y := by omega
    have e4 : 2 * y / 2 = y := by omega
    have e5 : (128 * k + y) / 64 = 2 * k := by omega
    have e6 : 2 * (128 * k + y) = 256 * k + 2 * y := by omega
    simp only [lt, e1, e2, e3, e4, e5, e6, dite_true, dite_false, ht_window ht k hk, pk_window pk k hk, sc_window ze (2 * k) (by omega), sc_window sc (2 * k) (by omega), add_assoc]
  · have lt : 128 * k + (64 + y) < 2560 := by omega
    unfold share packed
    have e1 : (128 + 2 * y) % 2 < 1 := by omega
    have e2 : ¬ (128 + (2 * y + 1)) % 2 < 1 := by omega
    have e3 : (128 + (2 * y + 1)) / 2 = 64 + y := by omega
    have e4 : (128 + 2 * y) / 2 = 64 + y := by omega
    have e5 : (128 * k + (64 + y)) / 64 = 2 * k + 1 := by omega
    have e6 : 2 * (128 * k + (64 + y)) = 256 * k + (128 + 2 * y) := by omega
    simp only [lt, e1, e2, e3, e4, e5, e6, dite_true, dite_false, ht_window ht k hk, pk_window pk k hk, sc_window ze (2 * k + 1) (by omega), sc_window sc (2 * k + 1) (by omega), add_assoc]

theorem acc_apply (pk : Vec Ideal S2560x768 .i8) (sc ze : Vec Ideal S40x768 .f32) (ht : Vec Ideal S128x5120 .bf16) (r : Fin 128) (k : Fin 768) :
    teacherAcc pk sc ze ht (ix2 r k) = ∑ p ∈ Finset.range 2560, share pk sc ze ht r k p := by
  unfold teacherAcc
  iterate 20 refine chunk_step pk sc ze ht r k _ _ _ ?_
  pointwise
  rfl

/-- A tile's column is inside the vocabulary. -/
theorem inside (t k : ℕ) (ht : t < 42) (hk : k < 768) :
    IntOp.cmpi .slt (BitVec.ofNat 32 k) (Scalar.subi 32064#32 (Scalar.muli (BitVec.ofNat 32 t) 768#32)) = if 768 * t + k < 32064 then 1#1 else 0#1 := by
  have e : (Scalar.subi 32064#32 (Scalar.muli (BitVec.ofNat 32 t) 768#32)).toInt = 32064 - 768 * (t : ℤ) := by
    show (32064#32 - BitVec.ofNat 32 t * 768#32).toInt = _
    have : ∀ t : Fin 42, (32064#32 - BitVec.ofNat 32 t.val * 768#32).toInt = 32064 - 768 * (t.val : ℤ) := by decide +kernel
    exact this ⟨t, ht⟩
  have e' : (BitVec.ofNat 32 k).toInt = (k : ℤ) := by
    have : ∀ k : Fin 768, (BitVec.ofNat 32 k.val).toInt = (k.val : ℤ) := by decide +kernel
    exact this ⟨k, hk⟩
  show BitVec.ofBool ((BitVec.ofNat 32 k).slt _) = _
  rw [BitVec.slt_eq_decide, e, e']
  by_cases h : 768 * t + k < 32064
  · rw [if_pos h, decide_eq_true (by omega)]; rfl
  · rw [if_neg h, decide_eq_false (by omega)]; rfl

theorem half_log2e : Named.named (F := Ideal) (φ := .f32) κ "half_log2e" 0x3F38AA3B#32 = (((2 * (Real.log 2))⁻¹ : ℝ) : EReal) :=
  IdealRules.named_const.ideal_named_scalar κ "half_log2e" _ _ rfl
theorem neg_inf : Named.named (F := Ideal) (φ := .f32) κ "neg_inf" 0xF149F2CA#32 = (⊥ : EReal) :=
  IdealRules.named_const.ideal_named_scalar κ "neg_inf" _ _ rfl
theorem log2e : Named.named (F := Ideal) (φ := .f32) κ "log2e" 0x3FB8AA3B#32 = (((Real.log 2)⁻¹ : ℝ) : EReal) :=
  IdealRules.named_const.ideal_named_scalar κ "log2e" _ _ rfl
theorem ln2 : Named.named (F := Ideal) (φ := .f32) κ "ln2" 0x3F317218#32 = ((Real.log 2 : ℝ) : EReal) :=
  IdealRules.named_const.ideal_named_scalar κ "ln2" _ _ rfl
theorem log_vocab : Named.named (F := Ideal) (φ := .f32) κ "log_vocab" 0x41260201#32 = ((Real.log 32064 : ℝ) : EReal) :=
  IdealRules.named_const.ideal_named_scalar κ "log_vocab" _ _ rfl

/-- The teacher's scaled logits of a tile. -/
theorem teacherTile_apply (t : ℕ) (ht' : t < 42) (pk : Vec Ideal S2560x768 .i8) (sc ze : Vec Ideal S40x768 .f32) (ht : Vec Ideal S128x5120 .bf16) (r : Fin 128) (k : Fin 768) :
    teacherTile (BitVec.ofNat 32 t) pk sc ze ht (ix2 r k) = if 768 * t + k.val < 32064 then
      (∑ p ∈ Finset.range 2560, share pk sc ze ht r k p) * (((2 * (Real.log 2))⁻¹ : ℝ) : EReal) else ⊥ := by
  rw [← acc_apply, ← half_log2e, ← neg_inf]
  have h := inside t k.val ht' k.isLt
  unfold teacherTile
  generalize teacherAcc pk sc ze ht = A
  pointwise [k0_pay28]
  rw [h]
  by_cases h : 768 * t + k.val < 32064
  · rw [if_pos h, if_pos h]; rfl
  · rw [if_neg h, if_neg h]; rfl

/-- The student's scaled logits of a tile. -/
theorem studentTile_apply (t : ℕ) (ht' : t < 42) (yc : Vec Ideal S128x3072 .fp8e4m3) (w : Vec Ideal S768x3072 .fp8e4m3) (ys : Vec Ideal S128x1 .f32)
    (ws : Vec Ideal S1x768 .f32) (r : Fin 128) (k : Fin 768) :
    studentTile (BitVec.ofNat 32 t) yc w ys ws (ix2 r k) = if 768 * t + k.val < 32064 then
      (∑ x, yc (ix2 r x) * w (ix2 k x)) * (ys (ix2 r 0) * (((2 * (Real.log 2))⁻¹ : ℝ) : EReal)) * ws (ix2 0 k) else ⊥ := by
  rw [← half_log2e, ← neg_inf]
  have h := inside t k.val ht' k.isLt
  pointwise [studentTile, k0_pay84, k0_pay28]
  rw [h]
  by_cases h : 768 * t + k.val < 32064
  · rw [if_pos h, if_pos h]; rfl
  · rw [if_neg h, if_neg h]; rfl

end Cert.KernelIdeal.Val

end
-- ==== Proof.Hand.Track.Tiles.lean ====
module

public import proofs.«01_k».proof.Proof.Hand.Track.Blocks
public import proofs.«01_k».proof.Proof.Hand.Value.KerTile

/-! # A logit tile does not depend on what lies outside the vocabulary

Both logit tiles are columns of one row of scaled logits (`gT`, `gS`), minus infinity from column 32064 on. -/

@[expose] public section

noncomputable section

namespace Cert.KernelIdeal.Track

open Cert.KernelIdeal Cert.KernelIdeal.Gen Cert.KernelIdeal.Hand Cert.KernelIdeal.Val
open Idealize.ShloMosaic Idealize.ShloMosaic.TcCoe Idealize.SL.Sem
open Idealize.ShloMosaic.Pipeline (RDat Cfg Window)

variable (m : (ℓ : Loc nD τ sig) → Buf (Elt Ideal) ℓ)

theorem eq_ix2 {a b : ℕ} (j : (⟨2, ![a, b]⟩ : Shape).Idx) : ∃ (r : Fin a) (k : Fin b), j = ix2 r k :=
  ⟨j 0, j 1, funext fun x => by fin_cases x <;> rfl⟩

/-- The share of packed row `p` in the teacher's logit at row `r` and vocabulary column `i`. -/
def shareAt (A4 : Vec Ideal S2560x32064 .i8) (A5 A6 : Vec Ideal S40x32064 .f32) (h : Vec Ideal S128x5120 .bf16) (r : Fin 128) (i : Fin 32064)
    (p : ℕ) : EReal :=
  if hp : p < 2560 then packed (A4 (ix2 ⟨p, hp⟩ i)) (A5 (ix2 ⟨p / 64, by omega⟩ i)) (A6 (ix2 ⟨p / 64, by omega⟩ i))
    (h (ix2 r ⟨2 * p, by omega⟩)) (h (ix2 r ⟨2 * p + 1, by omega⟩)) else 0

/-- The scaled teacher logits of row `r`. -/
def gT (c : Dev nD) (r : Fin 128) (i : ℕ) : EReal :=
  if h : i < 32064 then (∑ p ∈ Finset.range 2560, shareAt (V m c main_arg4) (V m c main_arg5) (V m c main_arg6) (HT m c) r ⟨i, h⟩ p)
    * (((2 * (Real.log 2))⁻¹ : ℝ) : EReal) else ⊥

/-- The scaled student logits of row `r`. -/
def gS (c : Dev nD) (r : Fin 128) (i : ℕ) : EReal :=
  if h : i < 32064 then (∑ x, YC m c (ix2 r x) * V m c main_arg7 (ix2 ⟨i, h⟩ x)) * (YS m c (ix2 r 0) * (((2 * (Real.log 2))⁻¹ : ℝ) : EReal))
    * V m c main_v5 (ix2 0 ⟨i, h⟩) else ⊥

theorem tileT_apply (c : Dev nD) (t : Fin cfg0.N) (ht : t.val < 42) (Y6 : Vec Ideal S2560x768 .i8) (Y7 Y8 : Vec Ideal S40x768 .f32)
    (h6 : Brings m c 6 t Y6) (h7 : Brings m c 7 t Y7) (h8 : Brings m c 8 t Y8) (r : Fin 128) (k : Fin 768) :
    teacherTile (BitVec.ofNat 32 t.val) Y6 Y7 Y8 (HT m c) (ix2 r k) = gT m c r (768 * t.val + k.val) := by
  rw [teacherTile_apply t.val ht]
  unfold gT
  by_cases h : 768 * t.val + k.val < 32064
  · rw [if_pos h, dif_pos h]
    refine congrArg (· * _) (Finset.sum_congr rfl fun p hp => ?_)
    have hp := Finset.mem_range.mp hp
    unfold share shareAt
    rw [dif_pos hp, dif_pos hp, brings6 m c t ht Y6 h6 _ k h, brings7 m c t ht Y7 h7 _ k h, brings8 m c t ht Y8 h8 _ k h]
  · rw [if_neg h, dif_neg h]

theorem tileS_apply (c : Dev nD) (t : Fin cfg0.N) (ht : t.val < 42) (Y9 : Vec Ideal S768x3072 .fp8e4m3) (Y10 : Vec Ideal S1x768 .f32)
    (h9 : Brings m c 9 t Y9) (h10 : Brings m c 10 t Y10) (r : Fin 128) (k : Fin 768) :
    studentTile (BitVec.ofNat 32 t.val) (YC m c) Y9 (YS m c) Y10 (ix2 r k) = gS m c r (768 * t.val + k.val) := by
  rw [studentTile_apply t.val ht]
  unfold gS
  by_cases h : 768 * t.val + k.val < 32064
  · have e : ∀ x, YC m c (ix2 r x) * Y9 (ix2 k x) = YC m c (ix2 r x) * V m c main_arg7 (ix2 ⟨768 * t.val + k.val, h⟩ x) :=
      fun x => congrArg (YC m c (ix2 r x) * ·) (brings9 m c t ht Y9 h9 k x h)
    rw [if_pos h, dif_pos h, brings10 m c t ht Y10 h10 0 k h]
    simp only [e]
  · rw [if_neg h, dif_neg h]

theorem zT_apply (c : Dev nD) (t : Fin cfg0.N) (ht : t.val < 42) (r : Fin 128) (k : Fin 768) :
    zT m c t (ix2 r k) = gT m c r (768 * t.val + k.val) :=
  tileT_apply m c t ht _ _ _ (blk_brings m c 6 t) (blk_brings m c 7 t) (blk_brings m c 8 t) r k

theorem zS_apply (c : Dev nD) (t : Fin cfg0.N) (ht : t.val < 42) (r : Fin 128) (k : Fin 768) :
    zS m c t (ix2 r k) = gS m c r (768 * t.val + k.val) :=
  tileS_apply m c t ht _ _ (blk_brings m c 9 t) (blk_brings m c 10 t) r k

theorem teacher_tile (c : Dev nD) (t : Fin cfg0.N) (ht : t.val < 42) (Y6 : Vec Ideal S2560x768 .i8) (Y7 Y8 : Vec Ideal S40x768 .f32)
    (h6 : Brings m c 6 t Y6) (h7 : Brings m c 7 t Y7) (h8 : Brings m c 8 t Y8) :
    teacherTile (BitVec.ofNat 32 t.val) Y6 Y7 Y8 (HT m c) = zT m c t := by
  funext j
  obtain ⟨r, k, rfl⟩ := eq_ix2 j
  rw [tileT_apply m c t ht Y6 Y7 Y8 h6 h7 h8, zT_apply m c t ht]

theorem student_tile (c : Dev nD) (t : Fin cfg0.N) (ht : t.val < 42) (Y9 : Vec Ideal S768x3072 .fp8e4m3) (Y10 : Vec Ideal S1x768 .f32)
    (h9 : Brings m c 9 t Y9) (h10 : Brings m c 10 t Y10) :
    studentTile (BitVec.ofNat 32 t.val) (YC m c) Y9 (YS m c) Y10 = zS m c t := by
  funext j
  obtain ⟨r, k, rfl⟩ := eq_ix2 j
  rw [tileS_apply m c t ht Y9 Y10 h9 h10, zS_apply m c t ht]

end Cert.KernelIdeal.Track

end
-- ==== Proof.Hand.Value.Lse.lean ====
module

public import Idealize.ShloMosaic.Lib.Pointwise

/-! # The blocked logsumexp on the extended reals

A row of logits is read in tiles of 768 columns, each as six chunks of 128 lanes; a lane keeps the greatest scaled
logit it has met and the sum of the powers of two relative to it, rebased when the greatest changes. Here: what a
lane holds after some tiles, and that the lanes together give the logsumexp of the row. -/

@[expose] public section

noncomputable section

namespace Cert.Value

open Idealize.ShloMosaic

theorem exp2_nonneg (x : EReal) : 0 ≤ Ideal.exp2 x := by
  induction x with
  | bot => simp
  | top => simp
  | coe r => rw [Ideal.exp2_coe]; exact_mod_cast (Real.rpow_nonneg (by norm_num) r)

/-- Rebasing a power of two: from its own bound to a greater one. -/
theorem exp2_mul {v m m' : EReal} (h : v ≤ m) (h' : m ≤ m') :
    Ideal.exp2 (v - m) * Ideal.exp2 (m - m') = Ideal.exp2 (v - m') := by
  induction v with
  | bot => simp [sub_eq_add_neg]
  | top =>
    obtain rfl : m = ⊤ := top_le_iff.mp h
    obtain rfl : m' = ⊤ := top_le_iff.mp h'
    simp [sub_eq_add_neg]
  | coe v =>
    induction m with
    | bot => simp at h
    | top =>
      obtain rfl : m' = ⊤ := top_le_iff.mp h'
      simp [sub_eq_add_neg]
    | coe m =>
      induction m' with
      | bot => simp at h'
      | top => simp [sub_eq_add_neg]
      | coe m' =>
        rw [← EReal.coe_sub, ← EReal.coe_sub, ← EReal.coe_sub, Ideal.exp2_coe, Ideal.exp2_coe, Ideal.exp2_coe, ← EReal.coe_mul]
        congr 1
        show (2 : ℝ) ^ (v - m) * 2 ^ (m - m') = 2 ^ (v - m')
        rw [← Real.rpow_add (by norm_num)]
        congr 1
        ring

/-- A sum of terms that are not negative, times anything. -/
theorem sum_mul_of_nonneg {ι : Type*} (s : Finset ι) (f : ι → EReal) (hf : ∀ i ∈ s, 0 ≤ f i) (y : EReal) :
    (∑ i ∈ s, f i) * y = ∑ i ∈ s, f i * y := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- The greatest of a lane after one more tile. -/
def laneMax (m : EReal) (z : Fin 6 → EReal) : EReal :=
  max (max (max (max (max (max m (z 0)) (z 1)) (z 2)) (z 3)) (z 4)) (z 5)
/-- The sum of a lane after one more tile, relative to the new greatest `m'`. -/
def laneSum (s m m' : EReal) (z : Fin 6 → EReal) : EReal :=
  s * Ideal.exp2 (m - m') + Ideal.exp2 (z 0 - m') + Ideal.exp2 (z 1 - m') + Ideal.exp2 (z 2 - m') + Ideal.exp2 (z 3 - m')
    + Ideal.exp2 (z 4 - m') + Ideal.exp2 (z 5 - m')

theorem laneMax_le (m : EReal) (z : Fin 6 → EReal) (b : EReal) : laneMax m z ≤ b ↔ m ≤ b ∧ ∀ j, z j ≤ b := by
  unfold laneMax
  simp only [max_le_iff]
  constructor
  · rintro ⟨⟨⟨⟨⟨⟨h, h0⟩, h1⟩, h2⟩, h3⟩, h4⟩, h5⟩
    refine ⟨h, fun j => ?_⟩
    fin_cases j <;> assumption
  · rintro ⟨h, hj⟩
    exact ⟨⟨⟨⟨⟨⟨h, hj 0⟩, hj 1⟩, hj 2⟩, hj 3⟩, hj 4⟩, hj 5⟩

theorem laneSum_eq (s m m' : EReal) (z : Fin 6 → EReal) :
    laneSum s m m' z = s * Ideal.exp2 (m - m') + ∑ j, Ideal.exp2 (z j - m') := by
  unfold laneSum
  rw [Fin.sum_univ_six]
  ac_rfl

/-- What a lane holds after `n` tiles. -/
theorem lane_inv (z : ℕ → Fin 6 → EReal) (N : ℕ) (M S : ℕ → EReal) (hM0 : M 0 = ⊥) (hS0 : S 0 = 0)
    (hM : ∀ n < N, M (n + 1) = laneMax (M n) (z n)) (hS : ∀ n < N, S (n + 1) = laneSum (S n) (M n) (M (n + 1)) (z n)) :
    ∀ n ≤ N, (∀ b, M n ≤ b ↔ ∀ t < n, ∀ j, z t j ≤ b) ∧ S n = ∑ t ∈ Finset.range n, ∑ j, Ideal.exp2 (z t j - M n) := by
  intro n
  induction n with
  | zero =>
    intro _
    refine ⟨fun b => ?_, ?_⟩
    · simp [hM0]
    · simp [hS0]
  | succ n ih =>
    intro hn
    obtain ⟨h1, h2⟩ := ih (by omega)
    have hMle : ∀ b, M (n + 1) ≤ b ↔ ∀ t < n + 1, ∀ j, z t j ≤ b := by
      intro b
      rw [hM n (by omega), laneMax_le, h1 b]
      constructor
      · rintro ⟨ha, hb⟩ t ht j
        rcases Nat.lt_succ_iff_lt_or_eq.mp ht with h | rfl
        · exact ha t h j
        · exact hb j
      · intro h
        exact ⟨fun t ht j => h t (by omega) j, fun j => h n (by omega) j⟩
    refine ⟨hMle, ?_⟩
    have hup : M n ≤ M (n + 1) := by
      rw [hM n (by omega)]
      exact ((laneMax_le (M n) (z n) _).mp le_rfl).1
    have hz : ∀ t < n, ∀ j, z t j ≤ M n := (h1 (M n)).mp le_rfl
    rw [hS n (by omega), laneSum_eq, h2, Finset.sum_range_succ,
      sum_mul_of_nonneg _ _ (fun t _ => Finset.sum_nonneg fun j _ => exp2_nonneg _)]
    congr 1
    refine Finset.sum_congr rfl fun t ht => ?_
    rw [sum_mul_of_nonneg _ _ (fun j _ => exp2_nonneg _)]
    exact Finset.sum_congr rfl fun j _ => exp2_mul (hz t (Finset.mem_range.mp ht) j) hup

theorem fold_max_le {ι : Type*} (s : Finset ι) (f : ι → EReal) (b : EReal) : s.fold max ⊥ f ≤ b ↔ ∀ i ∈ s, f i ≤ b := by
  rw [Finset.fold_max_le]
  simp

/-- Tiles, chunks and lanes run over the columns, in order. -/
theorem sum_columns {M : Type*} [AddCommMonoid M] (f : ℕ → M) (n : ℕ) :
    ∑ l : Fin 128, ∑ t ∈ Finset.range n, ∑ j : Fin 6, f (768 * t + 128 * j.val + l.val) = ∑ i ∈ Finset.range (768 * n), f i := by
  rw [Finset.sum_comm]
  induction n with
  | zero => simp
  | succ n ih =>
    rw [Finset.sum_range_succ, ih, Nat.mul_succ, Finset.sum_range_add]
    congr 1
    rw [Finset.sum_comm, Fin.sum_univ_six]
    have h : ∀ j : ℕ, ∑ l : Fin 128, f (768 * n + 128 * j + l.val) = ∑ i ∈ Finset.range 128, f (768 * n + 128 * j + i) :=
      fun j => Fin.sum_univ_eq_sum_range (fun i => f (768 * n + 128 * j + i)) 128
    show (∑ l : Fin 128, f (768 * n + 128 * 0 + l.val)) + (∑ l : Fin 128, f (768 * n + 128 * 1 + l.val)) + (∑ l : Fin 128, f (768 * n + 128 * 2 + l.val))
      + (∑ l : Fin 128, f (768 * n + 128 * 3 + l.val)) + (∑ l : Fin 128, f (768 * n + 128 * 4 + l.val)) + (∑ l : Fin 128, f (768 * n + 128 * 5 + l.val)) = _
    simp only [h]
    rw [show (768 : ℕ) = 128 + 128 + 128 + 128 + 128 + 128 from rfl]
    simp only [Finset.sum_range_add]
    simp only [Nat.add_assoc, Nat.mul_zero, Nat.mul_one, Nat.zero_add]
    rfl

/-- The lanes together: the greatest of the row and the sum relative to it. -/
theorem lanes_total (g : ℕ → EReal) (M S : Fin 128 → EReal)
    (h : ∀ l, (∀ b, M l ≤ b ↔ ∀ t < 42, ∀ j : Fin 6, g (768 * t + 128 * j.val + l.val) ≤ b) ∧
      S l = ∑ t ∈ Finset.range 42, ∑ j : Fin 6, Ideal.exp2 (g (768 * t + 128 * j.val + l.val) - M l)) :
    Finset.univ.fold max ⊥ M = (Finset.range 32256).fold max ⊥ g ∧
      ∑ l, S l * Ideal.exp2 (M l - Finset.univ.fold max ⊥ M)
        = ∑ i ∈ Finset.range 32256, Ideal.exp2 (g i - (Finset.range 32256).fold max ⊥ g) := by
  have hmax : Finset.univ.fold max ⊥ M = (Finset.range 32256).fold max ⊥ g := by
    refine eq_of_forall_ge_iff fun b => ?_
    rw [fold_max_le, fold_max_le]
    constructor
    · intro hb i hi
      have hi' := Finset.mem_range.mp hi
      have := ((h ⟨i % 128, Nat.mod_lt _ (by norm_num)⟩).1 b).mp (hb _ (Finset.mem_univ _)) (i / 768) (by omega) ⟨i % 768 / 128, by omega⟩
      have e : 768 * (i / 768) + 128 * (i % 768 / 128) + i % 128 = i := by omega
      simpa only [e] using this
    · intro hb l _
      refine ((h l).1 b).mpr fun t ht j => hb _ (Finset.mem_range.mpr ?_)
      have := j.isLt
      have := l.isLt
      omega
  refine ⟨hmax, ?_⟩
  rw [hmax]
  have hle : ∀ l, M l ≤ (Finset.range 32256).fold max ⊥ g := fun l => by
    rw [← hmax]; exact (fold_max_le _ M _).mp le_rfl l (Finset.mem_univ _)
  have hs : ∀ l, S l * Ideal.exp2 (M l - (Finset.range 32256).fold max ⊥ g)
      = ∑ t ∈ Finset.range 42, ∑ j : Fin 6, Ideal.exp2 (g (768 * t + 128 * j.val + l.val) - (Finset.range 32256).fold max ⊥ g) := by
    intro l
    rw [(h l).2, sum_mul_of_nonneg _ _ (fun t _ => Finset.sum_nonneg fun j _ => exp2_nonneg _)]
    refine Finset.sum_congr rfl fun t ht => ?_
    rw [sum_mul_of_nonneg _ _ (fun j _ => exp2_nonneg _)]
    exact Finset.sum_congr rfl fun j _ => exp2_mul (((h l).1 _).mp le_rfl t (Finset.mem_range.mp ht) j) (hle l)
  simp only [hs]
  exact sum_columns (fun i => Ideal.exp2 (g i - (Finset.range 32256).fold max ⊥ g)) 42

/-! ## From powers of two to the exponential -/

theorem log2_pos : (0 : ℝ) < Real.log 2 := Real.log_pos (by norm_num)

theorem exp_mul_log2 (x : EReal) : Ideal.exp (x * ((Real.log 2 : ℝ) : EReal)) = Ideal.exp2 x := by
  induction x with
  | bot => rw [EReal.bot_mul_coe_of_pos log2_pos]; rfl
  | top => rw [EReal.top_mul_coe_of_pos log2_pos]; rfl
  | coe r =>
    rw [← EReal.coe_mul, Ideal.exp2_coe, Ideal.exp_coe]
    congr 1
    show Real.exp (r * Real.log 2) = (2 : ℝ) ^ r
    rw [Real.rpow_def_of_pos (by norm_num), mul_comm]

theorem sub_mul_log2 (v m : EReal) :
    v * ((Real.log 2 : ℝ) : EReal) - m * ((Real.log 2 : ℝ) : EReal) = (v - m) * ((Real.log 2 : ℝ) : EReal) := by
  rw [sub_eq_add_neg, ← neg_mul, sub_eq_add_neg, mul_comm v, mul_comm (-m), mul_comm (v + -m),
    EReal.left_distrib_of_nonneg_of_ne_top (by exact_mod_cast log2_pos.le) (EReal.coe_ne_top _)]

/-- A row's logsumexp in powers of two, of its scaled logits, is its logsumexp. -/
theorem lse_base (s : Finset ℕ) (g : ℕ → EReal) :
    (s.fold max ⊥ g + Ideal.log (∑ i ∈ s, Ideal.exp2 (g i - s.fold max ⊥ g)) * (((Real.log 2)⁻¹ : ℝ) : EReal)) * ((Real.log 2 : ℝ) : EReal)
      = s.fold max ⊥ (fun i => g i * ((Real.log 2 : ℝ) : EReal))
        + Ideal.log (∑ i ∈ s, Ideal.exp (g i * ((Real.log 2 : ℝ) : EReal) - s.fold max ⊥ (fun i => g i * ((Real.log 2 : ℝ) : EReal)))) := by
  have hf : s.fold max ⊥ (fun i => g i * ((Real.log 2 : ℝ) : EReal)) = s.fold max ⊥ g * ((Real.log 2 : ℝ) : EReal) := by
    have hmono : Monotone fun x : EReal => x * ((Real.log 2 : ℝ) : EReal) := fun a b h =>
      mul_le_mul_of_nonneg_right h (by exact_mod_cast log2_pos.le)
    have := Finset.fold_hom (op := max) (op' := max) (b := (⊥ : EReal)) (f := g) (s := s)
      (m := fun x : EReal => x * ((Real.log 2 : ℝ) : EReal)) (fun x y => hmono.map_max)
    simpa only [EReal.bot_mul_coe_of_pos log2_pos] using this
  rw [hf]
  simp only [sub_mul_log2, exp_mul_log2]
  rw [mul_comm, EReal.left_distrib_of_nonneg_of_ne_top (by exact_mod_cast log2_pos.le) (EReal.coe_ne_top _),
    mul_comm _ (s.fold max ⊥ g)]
  congr 1
  rw [mul_comm, mul_assoc, ← EReal.coe_mul, inv_mul_cancel₀ log2_pos.ne', EReal.coe_one, mul_one]

/-- Columns past the vocabulary hold minus infinity and change neither the greatest nor the sum. -/
theorem lse_cut (v : Fin 32064 → EReal) (g : ℕ → EReal) (hg : ∀ i : Fin 32064, g i.val = v i) (hb : ∀ i, 32064 ≤ i → g i = ⊥) :
    (Finset.range 32256).fold max ⊥ g = Finset.univ.fold max ⊥ v ∧
    ∀ M, ∑ i ∈ Finset.range 32256, Ideal.exp (g i - M) = ∑ k, Ideal.exp (v k - M) := by
  constructor
  · refine eq_of_forall_ge_iff fun b => ?_
    rw [fold_max_le, fold_max_le]
    constructor
    · intro h k _
      rw [← hg k]
      exact h _ (Finset.mem_range.mpr (by have := k.isLt; omega))
    · intro h i _
      by_cases hi : i < 32064
      · have := h ⟨i, hi⟩ (Finset.mem_univ _)
        rw [← hg] at this
        exact this
      · rw [hb i (by omega)]
        exact bot_le
  · intro M
    have : ∑ i ∈ Finset.range 32256, Ideal.exp (g i - M) = ∑ i ∈ Finset.range 32064, Ideal.exp (g i - M) := by
      symm
      refine Finset.sum_subset (Finset.range_mono (by norm_num)) fun i _ hi => ?_
      rw [hb i (by simpa using hi), sub_eq_add_neg, EReal.bot_add]
      rfl
    rw [this, ← Fin.sum_univ_eq_sum_range (fun i => Ideal.exp (g i - M))]
    exact Finset.sum_congr rfl fun k _ => by rw [hg k]

/-- The whole: the lanes' result is the row's logsumexp, of halved logits. -/
theorem lse_row (v : Fin 32064 → EReal) (g : ℕ → EReal)
    (hg : ∀ i : Fin 32064, g i.val * ((Real.log 2 : ℝ) : EReal) = v i) (hb : ∀ i, 32064 ≤ i → g i = ⊥)
    (M S : Fin 128 → EReal)
    (h : ∀ l, (∀ b, M l ≤ b ↔ ∀ t < 42, ∀ j : Fin 6, g (768 * t + 128 * j.val + l.val) ≤ b) ∧
      S l = ∑ t ∈ Finset.range 42, ∑ j : Fin 6, Ideal.exp2 (g (768 * t + 128 * j.val + l.val) - M l)) :
    (Finset.univ.fold max ⊥ M + Ideal.log (∑ l, S l * Ideal.exp2 (M l - Finset.univ.fold max ⊥ M)) * (((Real.log 2)⁻¹ : ℝ) : EReal))
        * ((Real.log 2 : ℝ) : EReal)
      = Finset.univ.fold max ⊥ v + Ideal.log (∑ k, Ideal.exp (v k - Finset.univ.fold max ⊥ v)) := by
  obtain ⟨h1, h2⟩ := lanes_total g M S h
  rw [h2, h1, lse_base]
  obtain ⟨h3, h4⟩ := lse_cut v (fun i => g i * ((Real.log 2 : ℝ) : EReal)) hg
    (fun i hi => by rw [hb i hi, EReal.bot_mul_coe_of_pos log2_pos])
  rw [h3, h4]

end Cert.Value

end
-- ==== Proof.Hand.Value.Reduce.lean ====
module

public import Idealize.ShloMosaic.Lib.Pointwise

/-! # Reductions along the rows of a matrix of any width, at a row -/

@[expose] public section

noncomputable section

namespace Cert.Value

open Idealize.ShloMosaic

theorem row_max {M n : ℕ} (v : FVec Ideal ⟨2, ![M, n]⟩ .f32) (h : (⟨2, ![M, n]⟩ : Shape).Reduces [1] ⟨1, ![M]⟩)
    (hφ : FKind.Formats .f32) (hacc : 0xFF800000#32 = FKind.maximumf.neutral .f32 hφ) (j : (⟨1, ![M]⟩ : Shape).Idx) :
    multiReduction .maximumf [1] ⟨1, ![M]⟩ v 0xFF800000#32 h hφ hacc j
      = Finset.univ.fold max (Ideal.ofBits .f32 0xFF800000#32) fun k : Fin n => v (ix2 (j 0) k) := by
  rw [multiReduction_maximumf_eq_fold, Shape.Reduces.fold_fiber_r2_a1]
  rfl

theorem row_sum {M n : ℕ} (v : FVec Ideal ⟨2, ![M, n]⟩ .f32) (h : (⟨2, ![M, n]⟩ : Shape).Reduces [1] ⟨1, ![M]⟩)
    (hφ : FKind.Formats .f32) (hacc : 0x00000000#32 = FKind.add.neutral .f32 hφ) (j : (⟨1, ![M]⟩ : Shape).Idx) :
    multiReduction .add [1] ⟨1, ![M]⟩ v 0x00000000#32 h hφ hacc j = ∑ k : Fin n, v (ix2 (j 0) k) := by
  rw [multiReduction_add_apply, Ideal.reduceAdd_def, Ideal.reduceAdd_r2_a1]
  rfl

theorem neg_inf_f32 : Ideal.ofBits .f32 0xFF800000#32 = ⊥ := by simp [Ideal.ofBits, Ideal.ieee]

theorem two_f32 : Ideal.ofBits .f32 0x40000000#32 = ((2 : ℝ) : EReal) := by
  simp [Ideal.ofBits, Ideal.ieee]
  rw [← EReal.coe_mul]
  norm_num

/-- A column broadcast over the rows. -/
theorem column_apply {n : ℕ} (X : FVec Ideal ⟨2, ![128, 1]⟩ .f32) (h : (⟨2, ![128, 1]⟩ : Shape).Broadcasts ⟨2, ![128, n]⟩)
    (r : Fin 128) (k : Fin n) : broadcastTo ⟨2, ![128, n]⟩ X h (ix2 r k) = X (ix2 r 0) := by
  unfold broadcastTo
  refine congrArg X (funext fun a => ?_)
  match a with
  | ⟨0, _⟩ => exact dif_neg (by show ¬ (128 : ℕ) = 1; decide)
  | ⟨1, _⟩ => exact dif_pos rfl

/-- One vector as a column. -/
theorem col_cast (X : FVec Ideal ⟨1, ![128]⟩ .f32) (h : (⟨1, ![128]⟩ : Shape).ShapeCasts ⟨2, ![128, 1]⟩) (r : Fin 128) :
    shapeCast ⟨2, ![128, 1]⟩ X h (ix2 r 0) = X (ix1 r) := by
  pointwise

/-- The logsumexp of a row. -/
def lseOf {n : ℕ} (v : Fin n → EReal) : EReal :=
  Finset.univ.fold max ⊥ v + Ideal.log (∑ k, Ideal.exp (v k - Finset.univ.fold max ⊥ v))

/-- The logsumexp of each row of a matrix, as the vector operations spell it. -/
theorem lse_rows {n : ℕ} (v : FVec Ideal ⟨2, ![128, n]⟩ .f32) (h : (⟨2, ![128, n]⟩ : Shape).Reduces [1] ⟨1, ![128]⟩)
    (hc : (⟨1, ![128]⟩ : Shape).ShapeCasts ⟨2, ![128, 1]⟩) (hb : (⟨2, ![128, 1]⟩ : Shape).Broadcasts ⟨2, ![128, n]⟩)
    (hφ hφ' : FKind.Formats .f32) (hm : 0xFF800000#32 = FKind.maximumf.neutral .f32 hφ) (ha : 0x00000000#32 = FKind.add.neutral .f32 hφ')
    (r : Fin 128) :
    addf (shapeCast ⟨2, ![128, 1]⟩ (multiReduction .maximumf [1] ⟨1, ![128]⟩ v 0xFF800000#32 h hφ hm) hc)
      (log (shapeCast ⟨2, ![128, 1]⟩ (multiReduction .add [1] ⟨1, ![128]⟩
        (exp (subf v (broadcastTo ⟨2, ![128, n]⟩ (shapeCast ⟨2, ![128, 1]⟩ (multiReduction .maximumf [1] ⟨1, ![128]⟩ v 0xFF800000#32 h hφ hm) hc) hb)))
        0x00000000#32 h hφ' ha) hc)) (ix2 r 0)
      = lseOf fun k => v (ix2 r k) := by
  unfold lseOf
  show shapeCast ⟨2, ![128, 1]⟩ _ hc (ix2 r 0) + Ideal.log (shapeCast ⟨2, ![128, 1]⟩ _ hc (ix2 r 0)) = _
  rw [col_cast, col_cast, row_max, row_sum, neg_inf_f32]
  refine congrArg (fun b => Finset.univ.fold max ⊥ (fun k => v (ix2 r k)) + Ideal.log b) (Finset.sum_congr rfl fun k _ => ?_)
  show Ideal.exp (v (ix2 r k) - broadcastTo ⟨2, ![128, n]⟩ _ hb (ix2 r k)) = _
  rw [column_apply, col_cast, row_max, neg_inf_f32]
  rfl

attribute [irreducible] lseOf

theorem subf_at {s : Shape} (a b : FVec Ideal s .f32) (j : s.Idx) : subf a b j = a j - b j := rfl

end Cert.Value

end
-- ==== Proof.Hand.Value.KerLse.lean ====
module

public import proofs.«01_k».proof.Proof.Hand.Steps
public import proofs.«01_k».proof.Proof.Hand.Value.Lse
public import proofs.«01_k».proof.Proof.Hand.Value.Reduce
public import proofs.«01_k».proof.Proof.Hand.Value.KerTile
public import Idealize.ShloMosaic.Lib.Pointwise

/-! # The kernel's running statistics, at an index -/

@[expose] public section

set_option maxHeartbeats 2000000

noncomputable section

namespace Cert.KernelIdeal.Val

open Cert.KernelIdeal Cert.KernelIdeal.Gen Cert.KernelIdeal.Hand Cert.Value
open Idealize.ShloMosaic Idealize.ShloMosaic.TcCoe Idealize.SL.Sem

theorem foldMax_apply (z : FVec Ideal S128x768 .f32) (m : Vec Ideal S128x128 .f32) (r k : Fin 128) :
    foldMax z m (ix2 r k) = laneMax (m (ix2 r k)) fun j => z (ix2 r ⟨128 * j.val + k.val, by omega⟩) := by
  unfold laneMax
  pointwise [foldMax, k0_pay87]

theorem foldSum_apply (z : FVec Ideal S128x768 .f32) (m s : Vec Ideal S128x128 .f32) (r k : Fin 128) :
    foldSum z m s (ix2 r k) = laneSum (s (ix2 r k)) (m (ix2 r k)) (foldMax z m (ix2 r k)) fun j => z (ix2 r ⟨128 * j.val + k.val, by omega⟩) := by
  unfold laneSum foldSum foldMax k0_pay88
  generalize k0_pay87 (F := Ideal) _ _ _ = M
  pointwise
  rfl

theorem pay27_apply (r k : Fin 128) : k0_pay27 (F := Ideal) (ix2 r k) = ⊥ := by
  rw [← neg_inf]
  pointwise [k0_pay27]
theorem pay1_apply (r k : Fin 128) : k0_pay1 (F := Ideal) (ix2 r k) = ⊥ := by
  rw [← neg_inf]
  pointwise [k0_pay1]
theorem pay2_apply (r k : Fin 128) : k0_pay2 (F := Ideal) (ix2 r k) = 0 := by
  pointwise [k0_pay2]
theorem pay3_apply (r k : Fin 128) : k0_pay3 (F := Ideal) (ix2 r k) = 0 := by
  pointwise [k0_pay3]

theorem pay92_apply (m s : Vec Ideal S128x128 .f32) (r : Fin 128) :
    k0_pay92 m s (ix2 r 0) = Finset.univ.fold max ⊥ (fun l => m (ix2 r l))
      + Ideal.log (∑ l, s (ix2 r l) * Ideal.exp2 (m (ix2 r l) - Finset.univ.fold max ⊥ (fun l => m (ix2 r l)))) * (((Real.log 2)⁻¹ : ℝ) : EReal) := by
  rw [← log2e, ← neg_inf_f32]
  pointwise [k0_pay92]
  rfl

theorem pay91_eq (m s : Vec Ideal S128x128 .f32) (r : Fin 128) :
    k0_pay91 m s (ix2 r 0) = k0_pay92 m s (ix2 r 0) * ((Real.log 2 : ℝ) : EReal) - ((Real.log 32064 : ℝ) : EReal) := by
  rw [← ln2, ← log_vocab]
  pointwise [k0_pay91, k0_pay89, k0_pay92]

theorem pay7_eq (v : FVec Ideal S128x1 .f32) (r : Fin 128) :
    k0_pay7 v (ix2 r 0) = v (ix2 r 0) * ((Real.log 2 : ℝ) : EReal) - ((Real.log 32064 : ℝ) : EReal) := by
  rw [← ln2, ← log_vocab]
  pointwise [k0_pay7]

/-- The logsumexp of a row from its lane statistics. -/
theorem lse_lanes (g : ℕ → EReal) (hb : ∀ i, 32064 ≤ i → g i = ⊥) (m s : Vec Ideal S128x128 .f32) (r : Fin 128)
    (h : ∀ l : Fin 128, (∀ b, m (ix2 r l) ≤ b ↔ ∀ t < 42, ∀ j : Fin 6, g (768 * t + 128 * j.val + l.val) ≤ b) ∧
      s (ix2 r l) = ∑ t ∈ Finset.range 42, ∑ j : Fin 6, Ideal.exp2 (g (768 * t + 128 * j.val + l.val) - m (ix2 r l))) :
    k0_pay92 m s (ix2 r 0) * ((Real.log 2 : ℝ) : EReal) = lseOf fun i : Fin 32064 => g i.val * ((Real.log 2 : ℝ) : EReal) := by
  have e := lse_row (fun i : Fin 32064 => g i.val * ((Real.log 2 : ℝ) : EReal)) g (fun _ => rfl) hb (fun l => m (ix2 r l)) (fun l => s (ix2 r l)) h
  rw [pay92_apply]
  unfold lseOf
  exact e

end Cert.KernelIdeal.Val

end
-- ==== Proof.Hand.Value.Rows.lean ====
module

public import proofs.«01_k».proof.Proof.Hand.Value.Reduce

/-! # A row normalised, scaled and quantised -/

@[expose] public section

noncomputable section

namespace Cert.Value

open Idealize.ShloMosaic

/-- The square root of the mean square of a row of `n` entries, `nn` the number as a value. -/
def rms {n : ℕ} (nn : EReal) (X : Fin n → EReal) : EReal :=
  Ideal.sqrt (Ideal.div (∑ x, X x * X x) nn + Ideal.ofBits .f32 0x358637BD#32)

/-- A teacher row. -/
def teacherRow (X g : Fin 5120 → EReal) (k : Fin 5120) : EReal :=
  Ideal.div (X k) (rms (Ideal.ofBits .f32 0x45A00000#32) X) * g k

/-- A student row before the quantiser. -/
def studentRow (X g : Fin 3072 → EReal) (k : Fin 3072) : EReal :=
  X k * Ideal.div 1 (rms (Ideal.ofBits .f32 0x45400000#32) X) * g k

/-- Its greatest absolute value. -/
def rowAmax (X g : Fin 3072 → EReal) : EReal :=
  Finset.univ.fold max (Ideal.ofBits .f32 0xFF800000#32) fun k => max (studentRow X g k) (-studentRow X g k)

/-- Its scale. -/
def rowScale (X g : Fin 3072 → EReal) : EReal :=
  if rowAmax X g = 0 then 1 else Ideal.div (rowAmax X g) (Ideal.ofBits .f32 0x43E00000#32)

/-- Its codes. -/
def rowCode (X g : Fin 3072 → EReal) (k : Fin 3072) : EReal :=
  min (Ideal.ofBits .f32 0x43E00000#32) (max (Ideal.ofBits .f32 0xC3E00000#32) (Ideal.div (studentRow X g k) (rowScale X g)))

end Cert.Value

end
-- ==== Proof.Hand.Value.KerRows.lean ====
module

public import proofs.«01_k».proof.Proof.Hand.Steps
public import proofs.«01_k».proof.Proof.Hand.Value.Rows

/-! # The rows the kernel's prologue computes, at an index -/

@[expose] public section

noncomputable section

namespace Cert.KernelIdeal.Val

open Cert.KernelIdeal Cert.KernelIdeal.Gen Cert.KernelIdeal.Hand Cert.Value
open Idealize.ShloMosaic

/-- The entry of the one-hot matrix. -/
def hot (a b : BitVec 32) : EReal := FloatOps.sitofp (F := Ideal) FTy.f32 (BitVec.setWidth 32 (IntOp.cmpi .eq a b))

theorem hot_eq (a b : BitVec 32) : hot a b = if a = b then 1 else 0 := by
  unfold hot
  show (((BitVec.setWidth 32 (IntOp.cmpi .eq a b)).toInt : ℝ) : EReal) = _
  by_cases h : a = b
  · subst h
    simp [IntOp.cmpi]
  · have e : (a == b) = false := by simpa using h
    simp [IntOp.cmpi, h, e]

/-- A product with the one-hot matrix of a row number is that row. -/
theorem sum_hot (i : ℕ) (hi : i < 256) (f : Fin 256 → EReal) :
    ∑ x : Fin 256, hot (BitVec.ofNat 32 i) (BitVec.ofNat 32 x.val) * f x = f ⟨i, hi⟩ := by
  rw [Finset.sum_eq_single_of_mem (⟨i, hi⟩ : Fin 256) (Finset.mem_univ _)]
  · rw [hot_eq, if_pos rfl, one_mul]
  · intro x _ hx
    rw [hot_eq, if_neg, zero_mul]
    intro h
    apply hx
    apply Fin.ext
    have := congrArg BitVec.toNat h
    simp only [BitVec.toNat_ofNat] at this
    have := x.isLt
    show x.val = i
    omega

theorem pay15_apply (v16 : Vec Ideal S128x1 .i32) (v23 : Vec Ideal S256x3072 .bf16) (i : Fin 128 → Fin 256)
    (h : ∀ r, v16 (ix2 r 0) = BitVec.ofNat 32 (i r).val) (r : Fin 128) (k : Fin 3072) :
    k0_pay15 v16 v23 (ix2 r k) = v23 (ix2 (i r) k) := by
  refine Eq.trans ?_ (sum_hot (i r).val (i r).isLt fun x => v23 (ix2 x k))
  rw [← h r]
  unfold hot
  pointwise [k0_pay15, k0_pay14]

theorem pay21_apply (v16 : Vec Ideal S128x1 .i32) (v23 : Vec Ideal S256x3072 .bf16) (v44 : Vec Ideal S1x3072 .f32) (X : Fin 128 → Fin 3072 → EReal)
    (h : ∀ r k, k0_pay15 v16 v23 (ix2 r k) = X r k) (r : Fin 128) :
    k0_pay21 v16 v23 v44 (ix2 r 0) = rowAmax (X r) (fun k => v44 (ix2 0 k)) := by
  unfold rowAmax studentRow rms
  pointwise [k0_pay20, k0_pay16, k0_pay17, k0_pay21, h, Ideal.absf_def]

theorem pay20_apply (v16 : Vec Ideal S128x1 .i32) (v23 : Vec Ideal S256x3072 .bf16) (v44 : Vec Ideal S1x3072 .f32) (X : Fin 128 → Fin 3072 → EReal)
    (h : ∀ r k, k0_pay15 v16 v23 (ix2 r k) = X r k) (r : Fin 128) (k : Fin 3072) :
    k0_pay20 v16 v23 v44 (ix2 r k) = studentRow (X r) (fun k => v44 (ix2 0 k)) k := by
  unfold studentRow rms
  pointwise [k0_pay20, k0_pay16, k0_pay17, h]

theorem scale_apply (v16 : Vec Ideal S128x1 .i32) (v23 : Vec Ideal S256x3072 .bf16) (v44 : Vec Ideal S1x3072 .f32) (X : Fin 128 → Fin 3072 → EReal)
    (h : ∀ r k, k0_pay15 v16 v23 (ix2 r k) = X r k) (r : Fin 128) :
    k0_pay24 (k0_pay22 v16 v23 v44) (k0_pay23 v16 v23 v44) (ix2 r 0) = rowScale (X r) (fun k => v44 (ix2 0 k)) := by
  unfold rowScale
  pointwise [k0_pay22, k0_pay23, k0_pay24, pay21_apply v16 v23 v44 X h]

theorem code_apply (v16 : Vec Ideal S128x1 .i32) (v23 : Vec Ideal S256x3072 .bf16) (v44 : Vec Ideal S1x3072 .f32) (X : Fin 128 → Fin 3072 → EReal)
    (h : ∀ r k, k0_pay15 v16 v23 (ix2 r k) = X r k) (r : Fin 128) (k : Fin 3072) :
    k0_pay25 (k0_pay20 v16 v23 v44) (k0_pay22 v16 v23 v44) (k0_pay23 v16 v23 v44) (ix2 r k) = rowCode (X r) (fun k => v44 (ix2 0 k)) k := by
  unfold rowCode
  pointwise [k0_pay25, scale_apply v16 v23 v44 X h, pay20_apply v16 v23 v44 X h]

theorem teacher_apply (v16 : Vec Ideal S128x1 .i32) (v66 : Vec Ideal S256x5120 .bf16) (v79 : Vec Ideal S1x5120 .f32) (i : Fin 128 → Fin 256)
    (h : ∀ r, v16 (ix2 r 0) = BitVec.ofNat 32 (i r).val) (r : Fin 128) (k : Fin 5120) :
    k0_pay26 (k0_pay14 v16) v66 v79 (ix2 r k) = teacherRow (fun k => v66 (ix2 (i r) k)) (fun k => v79 (ix2 0 k)) k := by
  have e : ∀ k : Fin 5120, ∑ x : Fin 256, k0_pay14 (F := Ideal) v16 (ix2 r x) * v66 (ix2 x k) = v66 (ix2 (i r) k) := by
    intro k
    refine Eq.trans ?_ (sum_hot (i r).val (i r).isLt fun x => v66 (ix2 x k))
    rw [← h r]
    unfold hot
    refine Finset.sum_congr rfl fun x _ => ?_
    congr 1
    pointwise [k0_pay14]
  unfold teacherRow rms
  generalize k0_pay14 (F := Ideal) v16 = v22 at e ⊢
  pointwise [k0_pay26, e]

end Cert.KernelIdeal.Val

end
-- ==== Proof.Hand.Track.Stats.lean ====
module

public import proofs.«01_k».proof.Proof.Hand.Track.Tiles
public import proofs.«01_k».proof.Proof.Hand.Value.KerLse
public import proofs.«01_k».proof.Proof.Hand.Value.KerRows

/-! # The kernel's results as functions of the arguments -/

@[expose] public section

noncomputable section

namespace Cert.KernelIdeal.Track

open Cert.KernelIdeal Cert.KernelIdeal.Gen Cert.KernelIdeal.Hand Cert.KernelIdeal.Val Cert.Value
open Idealize.ShloMosaic Idealize.ShloMosaic.TcCoe Idealize.SL.Sem
open Idealize.ShloMosaic.Pipeline (RDat Cfg Window)

variable (m : (ℓ : Loc nD τ sig) → Buf (Elt Ideal) ℓ)

/-- The lane statistics after the 42 tiles. -/
theorem stat_lanes (z : Fin cfg0.N → Vec Ideal S128x768 .f32) (a b : Vec Ideal S128x128 .f32) (g : Fin 128 → ℕ → EReal)
    (ha : ∀ r k, a (ix2 r k) = ⊥) (hb : ∀ r k, b (ix2 r k) = 0)
    (hz : ∀ t : Fin cfg0.N, t.val < 42 → ∀ (r : Fin 128) (k : Fin 768), z t (ix2 r k) = g r (768 * t.val + k.val)) (r l : Fin 128) :
    (∀ b', (stat z (a, b) 42).1 (ix2 r l) ≤ b' ↔ ∀ t < 42, ∀ j : Fin 6, g r (768 * t + 128 * j.val + l.val) ≤ b') ∧
      (stat z (a, b) 42).2 (ix2 r l) = ∑ t ∈ Finset.range 42, ∑ j : Fin 6, Ideal.exp2 (g r (768 * t + 128 * j.val + l.val) - (stat z (a, b) 42).1 (ix2 r l)) := by
  have hN : cfg0.N = 84 := by decide
  have hs : ∀ n < 42, ∀ j : Fin 6, ∀ h : n < cfg0.N, z ⟨n, h⟩ (ix2 r ⟨128 * j.val + l.val, by omega⟩) = g r (768 * n + 128 * j.val + l.val) := by
    intro n hn j h
    rw [hz ⟨n, h⟩ hn]
    exact congrArg (g r) (by show 768 * n + (128 * j.val + l.val) = _; omega)
  refine lane_inv (fun t j => g r (768 * t + 128 * j.val + l.val)) 42 (fun n => (stat z (a, b) n).1 (ix2 r l)) (fun n => (stat z (a, b) n).2 (ix2 r l))
    (ha r l) (hb r l) ?_ ?_ 42 le_rfl
  · intro n hn
    have hn' : n < cfg0.N := by omega
    show (stat z (a, b) ((⟨n, hn'⟩ : Fin cfg0.N).val + 1)).1 (ix2 r l) = _
    rw [stat_succ]
    show foldMax (z ⟨n, hn'⟩) (stat z (a, b) n).1 (ix2 r l) = _
    rw [foldMax_apply]
    simp only [hs n hn _ hn']
  · intro n hn
    have hn' : n < cfg0.N := by omega
    show (stat z (a, b) ((⟨n, hn'⟩ : Fin cfg0.N).val + 1)).2 (ix2 r l) = laneSum _ _ ((stat z (a, b) ((⟨n, hn'⟩ : Fin cfg0.N).val + 1)).1 (ix2 r l)) _
    rw [stat_succ]
    show foldSum (z ⟨n, hn'⟩) (stat z (a, b) n).1 (stat z (a, b) n).2 (ix2 r l) = laneSum _ _ (foldMax (z ⟨n, hn'⟩) (stat z (a, b) n).1 (ix2 r l)) _
    rw [foldSum_apply]
    simp only [hs n hn _ hn']

theorem LT_apply (c : Dev nD) (r : Fin 128) :
    LT m c (ix2 r 0) = lseOf (fun i : Fin 32064 => gT m c r i.val * ((Real.log 2 : ℝ) : EReal)) - ((Real.log 32064 : ℝ) : EReal) := by
  unfold LT statT
  rw [Val.pay91_eq, lse_lanes (gT m c r) (fun i hi => by unfold gT; rw [dif_neg (by omega)]) _ _ r
    (fun l => stat_lanes (zT m c) _ _ (gT m c) pay27_apply pay2_apply (zT_apply m c) r l)]

theorem LS_apply (c : Dev nD) (r : Fin 128) :
    LS m c (ix2 r 0) = lseOf (fun i : Fin 32064 => gS m c r i.val * ((Real.log 2 : ℝ) : EReal)) - ((Real.log 32064 : ℝ) : EReal) := by
  unfold LS statS
  rw [Val.pay7_eq, lse_lanes (gS m c r) (fun i hi => by unfold gS; rw [dif_neg (by omega)]) _ _ r
    (fun l => stat_lanes (zS m c) _ _ (gS m c) pay1_apply pay3_apply (zS_apply m c) r l)]

/-- The rows the index column selects. -/
def rowOf (c : Dev nD) (i : Fin 128 → Fin 256) (r : Fin 128) (k : Fin 3072) : EReal :=
  m ((c : Thread nD τ).loc main_arg0) (ix3 ⟨(i r).val / 128, by omega⟩ ⟨(i r).val % 128, by omega⟩ k)

variable (i : Fin 128 → Fin 256)

theorem picks (c : Dev nD) (h : ∀ r, m ((c : Thread nD τ).loc main_arg9) (ix1 r) = BitVec.ofNat 32 (i r).val) (r : Fin 128) :
    blk m c 1 t0 (ix2 r 0) = BitVec.ofNat 32 (i r).val := by
  rw [blk1, v2_apply, h]

theorem picked (c : Dev nD) (h : ∀ r, m ((c : Thread nD τ).loc main_arg9) (ix1 r) = BitVec.ofNat 32 (i r).val) (r : Fin 128) (k : Fin 3072) :
    k0_pay15 (blk m c 1 t0) (blk m c 2 t0) (ix2 r k) = rowOf m c i r k := by
  rw [pay15_apply _ _ i (picks m i c h), blk2, v0_apply]
  rfl

theorem YC_apply (c : Dev nD) (h : ∀ r, m ((c : Thread nD τ).loc main_arg9) (ix1 r) = BitVec.ofNat 32 (i r).val) (r : Fin 128) (k : Fin 3072) :
    YC m c (ix2 r k) = rowCode (rowOf m c i r) (fun k => m ((c : Thread nD τ).loc main_arg2) (ix1 k)) k := by
  unfold YC studentCodes
  rw [code_apply _ _ _ (rowOf m c i) (picked m i c h)]
  exact congrArg (fun f => rowCode (rowOf m c i r) f k) (funext fun k => (blk4 m c 0 k).trans (v3_apply m c k))

theorem YS_apply (c : Dev nD) (h : ∀ r, m ((c : Thread nD τ).loc main_arg9) (ix1 r) = BitVec.ofNat 32 (i r).val) (r : Fin 128) :
    YS m c (ix2 r 0) = rowScale (rowOf m c i r) (fun k => m ((c : Thread nD τ).loc main_arg2) (ix1 k)) := by
  unfold YS studentScales
  rw [scale_apply _ _ _ (rowOf m c i) (picked m i c h)]
  exact congrArg (fun f => rowScale (rowOf m c i r) f) (funext fun k => (blk4 m c 0 k).trans (v3_apply m c k))

theorem HT_apply (c : Dev nD) (h : ∀ r, m ((c : Thread nD τ).loc main_arg9) (ix1 r) = BitVec.ofNat 32 (i r).val) (r : Fin 128) (k : Fin 5120) :
    HT m c (ix2 r k) = teacherRow (fun k => m ((c : Thread nD τ).loc main_arg1) (ix3 ⟨(i r).val / 128, by omega⟩ ⟨(i r).val % 128, by omega⟩ k))
      (fun k => m ((c : Thread nD τ).loc main_arg3) (ix1 k)) k := by
  unfold HT teacherRows
  rw [teacher_apply _ _ _ i (picks m i c h)]
  exact congrArg₂ (fun f g => teacherRow f g k) (funext fun k => (blk3 m c (i r) k).trans (v1_apply m c (i r) k))
    (funext fun k => (blk5 m c 0 k).trans (v4_apply m c k))

end Cert.KernelIdeal.Track

end
-- ==== Proof.Hand.Value.RefOut.lean ====
module

public import proofs.«01_k».proof.Proof.Hand.Value.Reduce
public import Idealize.ShloMosaic.Lib.Pipeline.ValueKit.Basic
public import proofs.«01_k».proof.Proof.Gen.ReferenceIdeal.Value

/-! # What the reference's body stores, from whole blocks -/

@[expose] public section

set_option maxRecDepth 4000

noncomputable section

namespace Cert.ReferenceIdeal.Val

open Cert.ReferenceIdeal Cert.ReferenceIdeal.Gen Cert.Value
open Idealize.ShloMosaic Idealize.ShloMosaic.TcCoe Idealize.SL.Sem
open Idealize.ShloMosaic.Pipeline (Dat Cfg Window)

theorem pay6_eq (x0 x1 : Vec Ideal S128x2560 .bf16) (x2 : Vec Ideal S128x3072 .f32) (x3 : Vec Ideal S128x1 .f32) (x4 : Vec Ideal S2560x32064 .i8) (x5 x6 : Vec Ideal S40x32064 .f32) (x7 : Vec Ideal S32064x3072 .fp8e4m3) (x8 : Vec Ideal S1x32064 .f32) :
    k0_pay6 x0 x1 x2 x3 x4 x5 x6 x7 x8 = k0_pay2 x2 := by
  have l2 : View.ld x2 r0_3 = x2 := View.ld_unit_lit _ x2 (by decide)
  unfold k0_pay6
  rw [l2]

theorem pay7_eq (x0 x1 : Vec Ideal S128x2560 .bf16) (x2 : Vec Ideal S128x3072 .f32) (x3 : Vec Ideal S128x1 .f32) (x4 : Vec Ideal S2560x32064 .i8) (x5 x6 : Vec Ideal S40x32064 .f32) (x7 : Vec Ideal S32064x3072 .fp8e4m3) (x8 : Vec Ideal S1x32064 .f32) :
    k0_pay7 x0 x1 x2 x3 x4 x5 x6 x7 x8 = k0_pay3 x3 := by
  have l3 : View.ld x3 r0_4 = x3 := View.ld_unit_lit _ x3 (by decide)
  unfold k0_pay7
  rw [l3]

theorem out9_eq (x0 x1 : Vec Ideal S128x2560 .bf16) (x2 : Vec Ideal S128x3072 .f32) (x3 : Vec Ideal S128x1 .f32) (x4 : Vec Ideal S2560x32064 .i8) (x5 x6 : Vec Ideal S40x32064 .f32) (x7 : Vec Ideal S32064x3072 .fp8e4m3) (x8 : Vec Ideal S1x32064 .f32) :
    out0_9 x0 x1 x2 x3 x4 x5 x6 x7 x8 = k0_pay4 (k0_pay1 x4 x6 x5 x0 x1) := by
  have l0 : View.ld x0 r0_2 = x0 := View.ld_unit_lit _ x0 (by decide)
  have l1 : View.ld x1 r0_2 = x1 := View.ld_unit_lit _ x1 (by decide)
  have l4 : View.ld x4 r0_0 = x4 := View.ld_unit_lit _ x4 (by decide)
  have l5 : View.ld x5 r0_1 = x5 := View.ld_unit_lit _ x5 (by decide)
  have l6 : View.ld x6 r0_1 = x6 := View.ld_unit_lit _ x6 (by decide)
  unfold out0_9
  rw [l0, l1, l4, l5, l6]
  exact View.canon_cons_unit_lit _ _ [] (by decide)

theorem out10_eq (x0 x1 : Vec Ideal S128x2560 .bf16) (x2 : Vec Ideal S128x3072 .f32) (x3 : Vec Ideal S128x1 .f32) (x4 : Vec Ideal S2560x32064 .i8) (x5 x6 : Vec Ideal S40x32064 .f32) (x7 : Vec Ideal S32064x3072 .fp8e4m3) (x8 : Vec Ideal S1x32064 .f32) :
    out0_10 x0 x1 x2 x3 x4 x5 x6 x7 x8 = k0_pay5 (k0_pay2 x2) (k0_pay3 x3) x7 x8 := by
  have l7 : View.ld x7 r0_5 = x7 := View.ld_unit_lit _ x7 (by decide)
  have l8 : View.ld x8 r0_6 = x8 := View.ld_unit_lit _ x8 (by decide)
  unfold out0_10
  rw [l7, l8, pay6_eq, pay7_eq]
  exact View.canon_cons_unit_lit _ _ [] (by decide)

theorem out11_eq (x0 x1 : Vec Ideal S128x2560 .bf16) (x2 : Vec Ideal S128x3072 .f32) (x3 : Vec Ideal S128x1 .f32) (x4 : Vec Ideal S2560x32064 .i8) (x5 x6 : Vec Ideal S40x32064 .f32) (x7 : Vec Ideal S32064x3072 .fp8e4m3) (x8 : Vec Ideal S1x32064 .f32) :
    out0_11 x0 x1 x2 x3 x4 x5 x6 x7 x8 = k0_pay2 x2 := by
  unfold out0_11
  rw [pay6_eq]
  exact View.canon_cons_unit_lit _ _ [] (by decide)

theorem out12_eq (x0 x1 : Vec Ideal S128x2560 .bf16) (x2 : Vec Ideal S128x3072 .f32) (x3 : Vec Ideal S128x1 .f32) (x4 : Vec Ideal S2560x32064 .i8) (x5 x6 : Vec Ideal S40x32064 .f32) (x7 : Vec Ideal S32064x3072 .fp8e4m3) (x8 : Vec Ideal S1x32064 .f32) :
    out0_12 x0 x1 x2 x3 x4 x5 x6 x7 x8 = k0_pay3 x3 := by
  unfold out0_12
  rw [pay7_eq]
  exact View.canon_cons_unit_lit _ _ [] (by decide)

end Cert.ReferenceIdeal.Val

end
-- ==== Proof.Hand.Value.RefBlk.lean ====
module

public import proofs.«01_k».proof.Proof.Hand.Value.Reduce
public import Idealize.ShloMosaic.Lib.Pipeline.ValueKit.Basic
public import proofs.«01_k».proof.Proof.Gen.ReferenceIdeal.Value

/-! # Every input block of the reference is its whole array -/

@[expose] public section

set_option maxRecDepth 4000

noncomputable section

namespace Cert.ReferenceIdeal.Val

open Cert.ReferenceIdeal Cert.ReferenceIdeal.Gen Cert.Value
open Idealize.ShloMosaic Idealize.ShloMosaic.TcCoe Idealize.SL.Sem
open Idealize.ShloMosaic.Pipeline (Dat Cfg Window)

variable (m : (ℓ : Loc nD τ sig) → Buf (Elt Ideal) ℓ)

/-- The one grid point. -/
def p0 : Fin cfg0.N := ⟨0, by decide⟩

theorem geo0 : ((cfg0.win 0).xrect (cfg0.grid.coords p0)).off 0 = 0 ∧ ((cfg0.win 0).xrect (cfg0.grid.coords p0)).off 1 = 0 := by decide +kernel
theorem iblk0 (c : Dev nD) : iblk m c 0 p0 = V m c main_v58 := by
  funext j
  refine congrArg (V m c main_v58) (funext fun a => Fin.ext ?_)
  fin_cases a
  · show ((cfg0.win 0).xrect (cfg0.grid.coords p0)).off 0 + 1 * (j 0).val = (j 0).val
    rw [geo0.1]; omega
  · show ((cfg0.win 0).xrect (cfg0.grid.coords p0)).off 1 + 1 * (j 1).val = (j 1).val
    rw [geo0.2]; omega

theorem geo1 : ((cfg0.win 1).xrect (cfg0.grid.coords p0)).off 0 = 0 ∧ ((cfg0.win 1).xrect (cfg0.grid.coords p0)).off 1 = 0 := by decide +kernel
theorem iblk1 (c : Dev nD) : iblk m c 1 p0 = V m c main_v59 := by
  funext j
  refine congrArg (V m c main_v59) (funext fun a => Fin.ext ?_)
  fin_cases a
  · show ((cfg0.win 1).xrect (cfg0.grid.coords p0)).off 0 + 1 * (j 0).val = (j 0).val
    rw [geo1.1]; omega
  · show ((cfg0.win 1).xrect (cfg0.grid.coords p0)).off 1 + 1 * (j 1).val = (j 1).val
    rw [geo1.2]; omega

theorem geo2 : ((cfg0.win 2).xrect (cfg0.grid.coords p0)).off 0 = 0 ∧ ((cfg0.win 2).xrect (cfg0.grid.coords p0)).off 1 = 0 := by decide +kernel
theorem iblk2 (c : Dev nD) : iblk m c 2 p0 = V m c main_v57 := by
  funext j
  refine congrArg (V m c main_v57) (funext fun a => Fin.ext ?_)
  fin_cases a
  · show ((cfg0.win 2).xrect (cfg0.grid.coords p0)).off 0 + 1 * (j 0).val = (j 0).val
    rw [geo2.1]; omega
  · show ((cfg0.win 2).xrect (cfg0.grid.coords p0)).off 1 + 1 * (j 1).val = (j 1).val
    rw [geo2.2]; omega

theorem geo3 : ((cfg0.win 3).xrect (cfg0.grid.coords p0)).off 0 = 0 ∧ ((cfg0.win 3).xrect (cfg0.grid.coords p0)).off 1 = 0 := by decide +kernel
theorem iblk3 (c : Dev nD) : iblk m c 3 p0 = V m c main_v54 := by
  funext j
  refine congrArg (V m c main_v54) (funext fun a => Fin.ext ?_)
  fin_cases a
  · show ((cfg0.win 3).xrect (cfg0.grid.coords p0)).off 0 + 1 * (j 0).val = (j 0).val
    rw [geo3.1]; omega
  · show ((cfg0.win 3).xrect (cfg0.grid.coords p0)).off 1 + 1 * (j 1).val = (j 1).val
    rw [geo3.2]; omega

theorem geo4 : ((cfg0.win 4).xrect (cfg0.grid.coords p0)).off 0 = 0 ∧ ((cfg0.win 4).xrect (cfg0.grid.coords p0)).off 1 = 0 := by decide +kernel
theorem iblk4 (c : Dev nD) : iblk m c 4 p0 = V m c main_arg4 := by
  funext j
  refine congrArg (V m c main_arg4) (funext fun a => Fin.ext ?_)
  fin_cases a
  · show ((cfg0.win 4).xrect (cfg0.grid.coords p0)).off 0 + 1 * (j 0).val = (j 0).val
    rw [geo4.1]; omega
  · show ((cfg0.win 4).xrect (cfg0.grid.coords p0)).off 1 + 1 * (j 1).val = (j 1).val
    rw [geo4.2]; omega

theorem geo5 : ((cfg0.win 5).xrect (cfg0.grid.coords p0)).off 0 = 0 ∧ ((cfg0.win 5).xrect (cfg0.grid.coords p0)).off 1 = 0 := by decide +kernel
theorem iblk5 (c : Dev nD) : iblk m c 5 p0 = V m c main_arg5 := by
  funext j
  refine congrArg (V m c main_arg5) (funext fun a => Fin.ext ?_)
  fin_cases a
  · show ((cfg0.win 5).xrect (cfg0.grid.coords p0)).off 0 + 1 * (j 0).val = (j 0).val
    rw [geo5.1]; omega
  · show ((cfg0.win 5).xrect (cfg0.grid.coords p0)).off 1 + 1 * (j 1).val = (j 1).val
    rw [geo5.2]; omega

theorem geo6 : ((cfg0.win 6).xrect (cfg0.grid.coords p0)).off 0 = 0 ∧ ((cfg0.win 6).xrect (cfg0.grid.coords p0)).off 1 = 0 := by decide +kernel
theorem iblk6 (c : Dev nD) : iblk m c 6 p0 = V m c main_arg6 := by
  funext j
  refine congrArg (V m c main_arg6) (funext fun a => Fin.ext ?_)
  fin_cases a
  · show ((cfg0.win 6).xrect (cfg0.grid.coords p0)).off 0 + 1 * (j 0).val = (j 0).val
    rw [geo6.1]; omega
  · show ((cfg0.win 6).xrect (cfg0.grid.coords p0)).off 1 + 1 * (j 1).val = (j 1).val
    rw [geo6.2]; omega

theorem geo7 : ((cfg0.win 7).xrect (cfg0.grid.coords p0)).off 0 = 0 ∧ ((cfg0.win 7).xrect (cfg0.grid.coords p0)).off 1 = 0 := by decide +kernel
theorem iblk7 (c : Dev nD) : iblk m c 7 p0 = V m c main_arg7 := by
  funext j
  refine congrArg (V m c main_arg7) (funext fun a => Fin.ext ?_)
  fin_cases a
  · show ((cfg0.win 7).xrect (cfg0.grid.coords p0)).off 0 + 1 * (j 0).val = (j 0).val
    rw [geo7.1]; omega
  · show ((cfg0.win 7).xrect (cfg0.grid.coords p0)).off 1 + 1 * (j 1).val = (j 1).val
    rw [geo7.2]; omega

theorem geo8 : ((cfg0.win 8).xrect (cfg0.grid.coords p0)).off 0 = 0 ∧ ((cfg0.win 8).xrect (cfg0.grid.coords p0)).off 1 = 0 := by decide +kernel
theorem iblk8 (c : Dev nD) : iblk m c 8 p0 = V m c main_v60 := by
  funext j
  refine congrArg (V m c main_v60) (funext fun a => Fin.ext ?_)
  fin_cases a
  · show ((cfg0.win 8).xrect (cfg0.grid.coords p0)).off 0 + 1 * (j 0).val = (j 0).val
    rw [geo8.1]; omega
  · show ((cfg0.win 8).xrect (cfg0.grid.coords p0)).off 1 + 1 * (j 1).val = (j 1).val
    rw [geo8.2]; omega

end Cert.ReferenceIdeal.Val

end
-- ==== Proof.Hand.Value.RefArr.lean ====
module

public import proofs.«01_k».proof.Proof.Gen.ReferenceIdeal.Value
public import proofs.«01_k».proof.Proof.Hand.Value.RefOut
public import proofs.«01_k».proof.Proof.Hand.Value.RefBlk

/-! # What the reference leaves in its result arrays -/

@[expose] public section

set_option maxRecDepth 4000

noncomputable section

namespace Cert.ReferenceIdeal.Val

open Cert.ReferenceIdeal Cert.ReferenceIdeal.Gen Cert.Value
open Idealize.ShloMosaic Idealize.ShloMosaic.TcCoe Idealize.SL.Sem
open Idealize.ShloMosaic.Pipeline (Dat Cfg Window)

variable (m : (ℓ : Loc nD τ sig) → Buf (Elt Ideal) ℓ)

theorem geo9 : ((cfg0.win 9).xrect (cfg0.grid.coords p0)).off 0 = 0 ∧ ((cfg0.win 9).xrect (cfg0.grid.coords p0)).off 1 = 0
    ∧ (cfg0.win 9).flush p0 = true := by decide +kernel

theorem emb9 (j : S128x1.Idx) : ((cfg0.win 9).blk p0).view.emb j = j := by
  funext x
  refine Fin.ext ?_
  fin_cases x
  · show ((cfg0.win 9).xrect (cfg0.grid.coords p0)).off 0 + 1 * (j 0).val = (j 0).val
    rw [geo9.1]; omega
  · show ((cfg0.win 9).xrect (cfg0.grid.coords p0)).off 1 + 1 * (j 1).val = (j 1).val
    rw [geo9.2.1]; omega

theorem cut9 (X : Vec Ideal S128x1 .f32) (j : S128x1.Idx) : (cfg0.win 9).cut (grid0.coords p0) X j = X j := rfl

theorem read9 (A : Vec Ideal S128x1 .f32) (j : S128x1.Idx) : ((cfg0.win 9).blk p0).view.read (Elt Ideal) A j = A j :=
  congrArg A (emb9 j)

theorem arr9 (c : Dev nD) : (dats m 0 c).arrAt 9 cfg0.N = k0_pay4 (k0_pay1 (V m c main_arg4) (V m c main_arg6) (V m c main_arg5) (V m c main_v58) (V m c main_v59)) := by
  have h := Value.blocks9 m c p0 geo9.2.2
  rw [Value.flushed9, out9_eq, iblk0, iblk1, iblk4, iblk5, iblk6] at h
  funext j
  exact (read9 _ j).symm.trans ((congrFun h j).trans (cut9 _ j))

theorem geo10 : ((cfg0.win 10).xrect (cfg0.grid.coords p0)).off 0 = 0 ∧ ((cfg0.win 10).xrect (cfg0.grid.coords p0)).off 1 = 0
    ∧ (cfg0.win 10).flush p0 = true := by decide +kernel

theorem emb10 (j : S128x1.Idx) : ((cfg0.win 10).blk p0).view.emb j = j := by
  funext x
  refine Fin.ext ?_
  fin_cases x
  · show ((cfg0.win 10).xrect (cfg0.grid.coords p0)).off 0 + 1 * (j 0).val = (j 0).val
    rw [geo10.1]; omega
  · show ((cfg0.win 10).xrect (cfg0.grid.coords p0)).off 1 + 1 * (j 1).val = (j 1).val
    rw [geo10.2.1]; omega

theorem cut10 (X : Vec Ideal S128x1 .f32) (j : S128x1.Idx) : (cfg0.win 10).cut (grid0.coords p0) X j = X j := rfl

theorem read10 (A : Vec Ideal S128x1 .f32) (j : S128x1.Idx) : ((cfg0.win 10).blk p0).view.read (Elt Ideal) A j = A j :=
  congrArg A (emb10 j)

theorem arr10 (c : Dev nD) : (dats m 0 c).arrAt 10 cfg0.N = k0_pay5 (k0_pay2 (V m c main_v57)) (k0_pay3 (V m c main_v54)) (V m c main_arg7) (V m c main_v60) := by
  have h := Value.blocks10 m c p0 geo10.2.2
  rw [Value.flushed10, out10_eq, iblk2, iblk3, iblk7, iblk8] at h
  funext j
  exact (read10 _ j).symm.trans ((congrFun h j).trans (cut10 _ j))

theorem geo11 : ((cfg0.win 11).xrect (cfg0.grid.coords p0)).off 0 = 0 ∧ ((cfg0.win 11).xrect (cfg0.grid.coords p0)).off 1 = 0
    ∧ (cfg0.win 11).flush p0 = true := by decide +kernel

theorem emb11 (j : S128x3072.Idx) : ((cfg0.win 11).blk p0).view.emb j = j := by
  funext x
  refine Fin.ext ?_
  fin_cases x
  · show ((cfg0.win 11).xrect (cfg0.grid.coords p0)).off 0 + 1 * (j 0).val = (j 0).val
    rw [geo11.1]; omega
  · show ((cfg0.win 11).xrect (cfg0.grid.coords p0)).off 1 + 1 * (j 1).val = (j 1).val
    rw [geo11.2.1]; omega

theorem cut11 (X : Vec Ideal S128x3072 .fp8e4m3) (j : S128x3072.Idx) : (cfg0.win 11).cut (grid0.coords p0) X j = X j := rfl

theorem read11 (A : Vec Ideal S128x3072 .fp8e4m3) (j : S128x3072.Idx) : ((cfg0.win 11).blk p0).view.read (Elt Ideal) A j = A j :=
  congrArg A (emb11 j)

theorem arr11 (c : Dev nD) : (dats m 0 c).arrAt 11 cfg0.N = k0_pay2 (V m c main_v57) := by
  have h := Value.blocks11 m c p0 geo11.2.2
  rw [Value.flushed11, out11_eq, iblk2] at h
  funext j
  exact (read11 _ j).symm.trans ((congrFun h j).trans (cut11 _ j))

theorem geo12 : ((cfg0.win 12).xrect (cfg0.grid.coords p0)).off 0 = 0 ∧ ((cfg0.win 12).xrect (cfg0.grid.coords p0)).off 1 = 0
    ∧ (cfg0.win 12).flush p0 = true := by decide +kernel

theorem emb12 (j : S128x1.Idx) : ((cfg0.win 12).blk p0).view.emb j = j := by
  funext x
  refine Fin.ext ?_
  fin_cases x
  · show ((cfg0.win 12).xrect (cfg0.grid.coords p0)).off 0 + 1 * (j 0).val = (j 0).val
    rw [geo12.1]; omega
  · show ((cfg0.win 12).xrect (cfg0.grid.coords p0)).off 1 + 1 * (j 1).val = (j 1).val
    rw [geo12.2.1]; omega

theorem cut12 (X : Vec Ideal S128x1 .f32) (j : S128x1.Idx) : (cfg0.win 12).cut (grid0.coords p0) X j = X j := rfl

theorem read12 (A : Vec Ideal S128x1 .f32) (j : S128x1.Idx) : ((cfg0.win 12).blk p0).view.read (Elt Ideal) A j = A j :=
  congrArg A (emb12 j)

theorem arr12 (c : Dev nD) : (dats m 0 c).arrAt 12 cfg0.N = k0_pay3 (V m c main_v54) := by
  have h := Value.blocks12 m c p0 geo12.2.2
  rw [Value.flushed12, out12_eq, iblk3] at h
  funext j
  exact (read12 _ j).symm.trans ((congrFun h j).trans (cut12 _ j))

end Cert.ReferenceIdeal.Val

end
-- ==== Proof.Hand.Value.RefHost.lean ====
module

public import proofs.«01_k».proof.Proof.Gen.ReferenceIdeal.Value
public import Idealize.ShloMosaic.Lib.Pointwise
public import Idealize.ShloMosaic.Lib.StableHlo.ReadAt
public import proofs.«01_k».proof.Proof.Hand.Value.Rows

/-! # What the reference's host lines leave in its buffers, at an index -/

@[expose] public section

set_option maxHeartbeats 2000000

noncomputable section

namespace Cert.ReferenceIdeal.Val

open Cert.ReferenceIdeal Cert.ReferenceIdeal.Gen Cert.Value
open Idealize.ShloMosaic Idealize.ShloMosaic.TcCoe Idealize.SL.Sem

/-- A gather of whole rows of a table reads the row its index names. -/
theorem gather_rows {N R C : Nat} (d : GatherDims ⟨2, ![N, C]⟩ ⟨2, ![R, 1]⟩ ⟨2, ![R, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → EReal) (idx : IVec ⟨2, ![R, 1]⟩ 32) (r : Fin R) (k : Fin C) (i : Fin N)
    (hi : (idx (ix2 r 0)).toInt = (i.val : ℤ)) :
    Host.gather d x idx (ix2 r k) = x (ix2 i k) := by
  obtain ⟨a1, a2, a3, a4, a5, a6, a7, wf⟩ := d
  simp only at h1 h2 h3 h4 h5 h6 h7
  subst h1 h2 h3 h4 h5 h6 h7
  unfold Host.gather
  refine congrArg x (funext fun a => Fin.ext ?_)
  match a with
  | ⟨0, _⟩ =>
    show GatherDims.start _ (ix2 r k) idx 0 + GatherDims.batchCoord _ (ix2 r k) 0 + GatherDims.offCoord _ (ix2 r k) 0 = i.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩) ⟨[1], [0], [], [], [0], 1, ![1, C], wf⟩ (ix2 r k) ⟨List.idxOf (0 : Fin 2) [0],
        List.idxOf_lt_length_iff.2 (List.mem_singleton.mpr rfl)⟩ = ix2 r 0 := by
      funext b; refine Fin.ext ?_
      match b with
      | ⟨0, _⟩ => rfl
      | ⟨1, _⟩ => rfl
    erw [hsi]
    rw [hi]
    show min i.val (N - 1) = i.val
    have := i.isLt
    omega
  | ⟨1, _⟩ =>
    show GatherDims.start _ (ix2 r k) idx 1 + GatherDims.batchCoord _ (ix2 r k) 1 + GatherDims.offCoord _ (ix2 r k) 1 = k.val
    rw [GatherDims.batchCoord_eq_zero _ _ _ List.not_mem_nil]
    unfold GatherDims.start GatherDims.offCoord
    rw [dif_neg (by simp), dif_pos ((GatherDims.mem_sKept _ _).mpr ⟨by simp, List.not_mem_nil⟩), Nat.zero_add]
    rfl

variable (m : (ℓ : Loc nD τ sig) → Buf (Elt Ideal) ℓ)

theorem v46_apply (c : Dev nD) (r : Fin 128) (k : Fin 3072) :
    V m c main_v46 (ix2 r k) = studentRow (fun k => V m c main_v31 (ix2 r k)) (fun k => m ((c : Thread nD τ).loc main_arg2) (ix1 k)) k := by
  unfold V studentRow rms
  after_reads_simp
  generalize Host.gather (α := Elt Ideal .bf16) gather_S256x3072_S128x1_S128x3072_1_0_n_n_0_1_13072 _ _ = X
  pointwise

theorem v54_apply (c : Dev nD) (r : Fin 128) :
    V m c main_v54 (ix2 r 0) = rowScale (fun k => V m c main_v31 (ix2 r k)) (fun k => m ((c : Thread nD τ).loc main_arg2) (ix1 k)) := by
  unfold V rowScale rowAmax studentRow rms
  after_reads_simp
  generalize Host.gather (α := Elt Ideal .bf16) gather_S256x3072_S128x1_S128x3072_1_0_n_n_0_1_13072 _ _ = X
  simp -implicitDefEqProofs only [StableHlo.TRef.toBuf, StableHlo.TRef.ofBuf, cast_cast, cast_eq, id_eq]
  pointwise [Ideal.absf_def]

theorem v57_apply (c : Dev nD) (r : Fin 128) (k : Fin 3072) :
    V m c main_v57 (ix2 r k) = rowCode (fun k => V m c main_v31 (ix2 r k)) (fun k => m ((c : Thread nD τ).loc main_arg2) (ix1 k)) k := by
  unfold V rowCode rowScale rowAmax studentRow rms
  after_reads_simp
  generalize Host.gather (α := Elt Ideal .bf16) gather_S256x3072_S128x1_S128x3072_1_0_n_n_0_1_13072 _ _ = X
  simp -implicitDefEqProofs only [StableHlo.TRef.toBuf, StableHlo.TRef.ofBuf, cast_cast, cast_eq, id_eq]
  pointwise [Ideal.absf_def]

theorem v58_apply (c : Dev nD) (r : Fin 128) (k : Fin 2560) :
    V m c main_v58 (ix2 r k) = teacherRow (fun k => V m c main_v9 (ix2 r k)) (fun k => m ((c : Thread nD τ).loc main_arg3) (ix1 k))
      ⟨2 * k.val, by omega⟩ := by
  unfold V teacherRow rms
  after_reads_simp
  generalize Host.gather (α := Elt Ideal .bf16) gather_S256x5120_S128x1_S128x5120_1_0_n_n_0_1_15120 _ _ = X
  pointwise

theorem v59_apply (c : Dev nD) (r : Fin 128) (k : Fin 2560) :
    V m c main_v59 (ix2 r k) = teacherRow (fun k => V m c main_v9 (ix2 r k)) (fun k => m ((c : Thread nD τ).loc main_arg3) (ix1 k))
      ⟨1 + 2 * k.val, by omega⟩ := by
  unfold V teacherRow rms
  after_reads_simp
  generalize Host.gather (α := Elt Ideal .bf16) gather_S256x5120_S128x1_S128x5120_1_0_n_n_0_1_15120 _ _ = X
  pointwise

theorem v60_apply (c : Dev nD) (k : Fin 32064) : V m c main_v60 (ix2 0 k) = m ((c : Thread nD τ).loc main_arg8) (ix1 k) := by
  unfold V
  after_reads_simp
  pointwise

theorem v0_apply (c : Dev nD) (i : Fin 256) (k : Fin 3072) :
    V m c main_v0 (ix2 i k) = m ((c : Thread nD τ).loc main_arg0) (ix3 ⟨i.val / 128, by omega⟩ ⟨i.val % 128, by omega⟩ k) := by
  unfold V
  after_reads_simp
  pointwise

theorem v1_apply (c : Dev nD) (i : Fin 256) (k : Fin 5120) :
    V m c main_v1 (ix2 i k) = m ((c : Thread nD τ).loc main_arg1) (ix3 ⟨i.val / 128, by omega⟩ ⟨i.val % 128, by omega⟩ k) := by
  unfold V
  after_reads_simp
  pointwise

/-- The selected rows, for row numbers inside the table. -/
theorem index_apply (a : BitVec 32) (i : Fin 256) (h : a = BitVec.ofNat 32 i.val) :
    (Scalar.select (IntOp.cmpi .slt a 0#32) (IntOp.addi a 256#32) a).toInt = (i.val : ℤ) := by
  subst h
  revert i
  decide +kernel

theorem v31_apply (c : Dev nD) (i : Fin 128 → Fin 256) (h : ∀ r, m ((c : Thread nD τ).loc main_arg9) (ix1 r) = BitVec.ofNat 32 (i r).val)
    (r : Fin 128) (k : Fin 3072) :
    V m c main_v31 (ix2 r k) = m ((c : Thread nD τ).loc main_arg0) (ix3 ⟨(i r).val / 128, by omega⟩ ⟨(i r).val % 128, by omega⟩ k) := by
  unfold V
  after_reads_simp
  have e : ∀ X : FVec Ideal S128x3072 .bf16, extf .f32 X bitsLt_bf16_f32 (ix2 r k) = X (ix2 r k) := fun X => by pointwise
  refine (e _).trans ?_
  refine (gather_rows gather_S256x3072_S128x1_S128x3072_1_0_n_n_0_1_13072 rfl rfl rfl rfl rfl rfl rfl _ _ r k (i r) ?_).trans ?_
  · refine Eq.trans (congrArg BitVec.toInt ?_) (index_apply _ (i r) (h r))
    pointwise
  · pointwise

theorem v9_apply (c : Dev nD) (i : Fin 128 → Fin 256) (h : ∀ r, m ((c : Thread nD τ).loc main_arg9) (ix1 r) = BitVec.ofNat 32 (i r).val)
    (r : Fin 128) (k : Fin 5120) :
    V m c main_v9 (ix2 r k) = m ((c : Thread nD τ).loc main_arg1) (ix3 ⟨(i r).val / 128, by omega⟩ ⟨(i r).val % 128, by omega⟩ k) := by
  unfold V
  after_reads_simp
  have e : ∀ X : FVec Ideal S128x5120 .bf16, extf .f32 X bitsLt_bf16_f32 (ix2 r k) = X (ix2 r k) := fun X => by pointwise
  refine (e _).trans ?_
  refine (gather_rows gather_S256x5120_S128x1_S128x5120_1_0_n_n_0_1_15120 rfl rfl rfl rfl rfl rfl rfl _ _ r k (i r) ?_).trans ?_
  · refine Eq.trans (congrArg BitVec.toInt ?_) (index_apply _ (i r) (h r))
    pointwise
  · pointwise

end Cert.ReferenceIdeal.Val

end
-- ==== Proof.Hand.Value.RefPay.lean ====
module

public import proofs.«01_k».proof.Proof.Gen.ReferenceIdeal.Value
public import proofs.«01_k».proof.Proof.Hand.Value.Reduce

/-! # What the reference's lines compute, at an index -/

@[expose] public section

noncomputable section

namespace Cert.ReferenceIdeal.Val

open Cert.ReferenceIdeal Cert.ReferenceIdeal.Gen Cert.Value
open Idealize.ShloMosaic Idealize.ShloMosaic.TcCoe Idealize.SL.Sem

theorem log_vocab : Named.named (F := Ideal) (φ := .f32) κ "log_vocab" 0x41260201#32 = ((Real.log 32064 : ℝ) : EReal) :=
  IdealRules.named_const.ideal_named_scalar κ "log_vocab" _ _ rfl

theorem pay4_apply (v : FVec Ideal S128x32064 .f32) (r : Fin 128) :
    k0_pay4 v (ix2 r 0) = lseOf (fun k : Fin 32064 => divf v (broadcast S128x32064 (Scalar.ofBits .f32 0x40000000#32)) (ix2 r k))
      - ((Real.log 32064 : ℝ) : EReal) := by
  rw [← log_vocab, ← lse_rows (n := 32064) (divf v (broadcast S128x32064 (Scalar.ofBits .f32 0x40000000#32))) reduces_S128x32064_S128
    shapeCasts_S128_S128x1 broadcasts_S128x1_S128x32064 (.inl rfl) (.inl rfl) rfl rfl r]
  unfold k0_pay4
  rw [subf_at]
  rfl

/-- The student's scaled product. -/
def student (v37 : FVec Ideal S128x3072 .fp8e4m3) (v39 : FVec Ideal S128x1 .f32) (v40 : Vec Ideal S32064x3072 .fp8e4m3) (v44 : Vec Ideal S1x32064 .f32) :
    FVec Ideal S128x32064 .f32 :=
  mulf (mulf (matmul (φ₂ := .fp8e4m3) dot_S128x3072_S32064x3072_S128x32064_1_1_0_0_n_n none v37 v40 (constant S128x32064 .f32 0x00000000#32))
    (broadcastTo S128x32064 v39 broadcasts_S128x1_S128x32064))
    (broadcastTo S128x32064 (shapeCast S1x32064 v44 shapeCasts_S1x32064_S1x32064) broadcasts_S1x32064_S128x32064)

theorem student_apply (v37 : FVec Ideal S128x3072 .fp8e4m3) (v39 : FVec Ideal S128x1 .f32) (v40 : Vec Ideal S32064x3072 .fp8e4m3) (v44 : Vec Ideal S1x32064 .f32)
    (r : Fin 128) (k : Fin 32064) :
    student v37 v39 v40 v44 (ix2 r k) = (∑ x : Fin 3072, v37 (ix2 r x) * v40 (ix2 k x)) * v39 (ix2 r 0) * v44 (ix2 0 k) := by
  pointwise [student]

theorem pay5_eq (v37 : FVec Ideal S128x3072 .fp8e4m3) (v39 : FVec Ideal S128x1 .f32) (v40 : Vec Ideal S32064x3072 .fp8e4m3) (v44 : Vec Ideal S1x32064 .f32) :
    k0_pay5 v37 v39 v40 v44 = k0_pay4 (student v37 v39 v40 v44) := by
  unfold k0_pay5 k0_pay4 student
  rfl

/-- The teacher's logits. -/
theorem pay1_apply (v0 : Vec Ideal S2560x32064 .i8) (v2 : Vec Ideal S40x32064 .f32) (v4 : Vec Ideal S40x32064 .f32) (v28 : Vec Ideal S128x2560 .bf16)
    (v31 : Vec Ideal S128x2560 .bf16) (r : Fin 128) (k : Fin 32064) :
    k0_pay1 v0 v2 v4 v28 v31 (ix2 r k)
      = ∑ x : Fin 2560, v28 (ix2 r x) * ((FloatOps.sitofp (F := Ideal) FTy.bf16 (IntOp.andi (BitVec.setWidth 32 (v0 (ix2 x k))) 15#32)
            - v2 (ix2 ⟨x.val / 64, by omega⟩ k)) * v4 (ix2 ⟨x.val / 64, by omega⟩ k))
        + ∑ x : Fin 2560, v31 (ix2 r x) * ((FloatOps.sitofp (F := Ideal) FTy.bf16 (IntOp.shrsi ArithUnit.vector (BitVec.setWidth 32 (v0 (ix2 x k))) 4#32)
            - v2 (ix2 ⟨x.val / 64, by omega⟩ k)) * v4 (ix2 ⟨x.val / 64, by omega⟩ k)) := by
  pointwise [k0_pay1]

end Cert.ReferenceIdeal.Val

end
-- ==== Proof.Hand.EqualRows.lean ====
module

public import proofs.«01_k».proof.Defs
public import proofs.«01_k».proof.Proof.Hand.Track.Stats
public import proofs.«01_k».proof.Proof.Hand.Value.RefArr
public import proofs.«01_k».proof.Proof.Hand.Value.RefHost
public import proofs.«01_k».proof.Proof.Hand.Value.RefPay
public import proofs.«01_k».proof.Proof.Gen.Pre_rows_in_range

/-! # Selected rows, halves and nibbles: the steps that join the two programs -/

@[expose] public section

noncomputable section

namespace Cert.Equal

open Cert.Value
open Idealize.ShloMosaic Idealize.ShloMosaic.TcCoe Idealize.SL.Sem

/-- The kernel's memory. -/
abbrev KMem := (ℓ : Loc Cert.KernelIdeal.nD Cert.KernelIdeal.τ Cert.KernelIdeal.sig) → Buf (Elt Ideal) ℓ
/-- The reference's memory. -/
abbrev RMem := (ℓ : Loc Cert.ReferenceIdeal.nD Cert.ReferenceIdeal.τ Cert.ReferenceIdeal.sig) → Buf (Elt Ideal) ℓ

/-- A 32-bit index the precondition admits. -/
theorem in_range (x : BitVec 32) (h : (IntOp.andi (IntOp.cmpi .sge x 0#32) (IntOp.cmpi .slt x 256#32)) = 1#1) : x.toNat < 256 := by
  unfold IntOp.andi IntOp.cmpi at h
  simp only [] at h
  have h1 : (0#32).sle x = true := by
    by_contra h'
    rw [Bool.not_eq_true] at h'
    rw [h'] at h
    revert h
    cases x.slt 256#32 <;> decide
  have h2 : x.slt 256#32 = true := by
    by_contra h'
    rw [Bool.not_eq_true] at h'
    rw [h'] at h
    revert h
    cases (0#32).sle x <;> decide
  rw [BitVec.sle_iff_toInt_le] at h1
  rw [BitVec.slt_iff_toInt_lt] at h2
  have e0 : (0#32).toInt = 0 := by decide
  have e1 : (256#32).toInt = 256 := by decide
  rw [e0] at h1
  rw [e1] at h2
  rw [BitVec.toInt_eq_toNat_cond] at h1 h2
  have := x.isLt
  split at h1 <;> omega

theorem rows_of_pre (m : KMem) (h : Cert.Pre_KernelIdeal_rows_in_range (hPre_rows_in_range := Cert.Pre_rows_in_range.Gen.facts) m) (c : Dev Cert.KernelIdeal.nD) :
    ∃ i : Fin 128 → Fin 256, ∀ r, m ((c : Thread Cert.KernelIdeal.nD Cert.KernelIdeal.τ).loc Cert.KernelIdeal.main_arg9) (ix1 r) = BitVec.ofNat 32 (i r).val := by
  have hr : ∀ r : Fin 128, (m ((c : Thread Cert.KernelIdeal.nD Cert.KernelIdeal.τ).loc Cert.KernelIdeal.main_arg9) (ix1 r) : BitVec 32).toNat < 256 :=
    fun r => in_range _ (congrFun (h c) (ix1 r))
  exact ⟨fun r => ⟨_, hr r⟩, fun r => BitVec.eq_of_toNat_eq (by rw [BitVec.toNat_ofNat]; exact (Nat.mod_eq_of_lt (BitVec.isLt _)).symm)⟩

/-- Half of a logit, in units of log 2 and back. -/
theorem half (z : EReal) : Ideal.div z (Ideal.ofBits .f32 0x40000000#32) = z * (((2 * (Real.log 2))⁻¹ : ℝ) : EReal) * ((Real.log 2 : ℝ) : EReal) := by
  have hl : Real.log 2 ≠ 0 := (Real.log_pos (by norm_num)).ne'
  rw [two_f32, mul_assoc, ← EReal.coe_mul]
  have e : (2 * Real.log 2)⁻¹ * Real.log 2 = (2 : ℝ)⁻¹ := by field_simp
  have h2 : ((2 : ℝ) : EReal) ≠ 0 := by norm_num
  rw [e, EReal.coe_inv]
  unfold Ideal.div
  rw [if_neg h2]

theorem half_student (a s b : EReal) : Ideal.div (a * s * b) (Ideal.ofBits .f32 0x40000000#32)
    = a * (s * (((2 * (Real.log 2))⁻¹ : ℝ) : EReal)) * b * ((Real.log 2 : ℝ) : EReal) := by
  rw [half]
  ac_rfl

open Cert.KernelIdeal.Track in
/-- The two nibbles of each packed row, summed together or apart. -/
theorem teacher_sum (A4 : Vec Ideal Cert.ReferenceIdeal.S2560x32064 .i8) (A5 A6 : Vec Ideal Cert.ReferenceIdeal.S40x32064 .f32)
    (H : Vec Ideal Cert.KernelIdeal.S128x5120 .bf16) (E O : Vec Ideal Cert.ReferenceIdeal.S128x2560 .bf16) (r : Fin 128) (i : Fin 32064)
    (hE : ∀ k : Fin 2560, E (ix2 r k) = H (ix2 r ⟨2 * k.val, by omega⟩)) (hO : ∀ k : Fin 2560, O (ix2 r k) = H (ix2 r ⟨2 * k.val + 1, by omega⟩)) :
    Cert.ReferenceIdeal.Gen.k0_pay1 A4 A6 A5 E O (ix2 r i) = ∑ p ∈ Finset.range 2560, shareAt A4 A5 A6 H r i p := by
  rw [Cert.ReferenceIdeal.Val.pay1_apply, Finset.sum_range, ← Finset.sum_add_distrib]
  refine Finset.sum_congr rfl fun p _ => ?_
  unfold shareAt
  rw [dif_pos p.isLt, hE, hO]
  rfl

end Cert.Equal

end
-- ==== Proof.Hand.Equal.lean ====
module

public import proofs.«01_k».proof.Proof.Hand.EqualRows

/-! # The reference's arrays are the kernel's -/

@[expose] public section

noncomputable section

namespace Cert.Equal

open Cert.Value
open Idealize.ShloMosaic Idealize.ShloMosaic.TcCoe Idealize.SL.Sem
open Cert.KernelIdeal.Track (LT LS YC YS HT gT gS rowOf)

variable (m : KMem) (m' : RMem) (i : Fin 128 → Fin 256)

/-- One core's argument in the two programs' memories. -/
abbrev karg (m : KMem) (c : Dev Cert.KernelIdeal.nD) (b : Ref Cert.KernelIdeal.sig .tc) := m ((c : Thread Cert.KernelIdeal.nD Cert.KernelIdeal.τ).loc b)
abbrev rarg (m' : RMem) (c : Dev Cert.ReferenceIdeal.nD) (b : Ref Cert.ReferenceIdeal.sig .tc) := m' ((c : Thread Cert.ReferenceIdeal.nD Cert.ReferenceIdeal.τ).loc b)

section rows
variable (c : Dev Cert.KernelIdeal.nD)
  (hi : ∀ r, karg m c Cert.KernelIdeal.main_arg9 (ix1 r) = BitVec.ofNat 32 (i r).val)
  (h0 : rarg m' c Cert.ReferenceIdeal.main_arg0 = karg m c Cert.KernelIdeal.main_arg0)
  (h1 : rarg m' c Cert.ReferenceIdeal.main_arg1 = karg m c Cert.KernelIdeal.main_arg1)
  (h2 : rarg m' c Cert.ReferenceIdeal.main_arg2 = karg m c Cert.KernelIdeal.main_arg2)
  (h3 : rarg m' c Cert.ReferenceIdeal.main_arg3 = karg m c Cert.KernelIdeal.main_arg3)
  (h4 : rarg m' c Cert.ReferenceIdeal.main_arg4 = karg m c Cert.KernelIdeal.main_arg4)
  (h5 : rarg m' c Cert.ReferenceIdeal.main_arg5 = karg m c Cert.KernelIdeal.main_arg5)
  (h6 : rarg m' c Cert.ReferenceIdeal.main_arg6 = karg m c Cert.KernelIdeal.main_arg6)
  (h7 : rarg m' c Cert.ReferenceIdeal.main_arg7 = karg m c Cert.KernelIdeal.main_arg7)
  (h8 : rarg m' c Cert.ReferenceIdeal.main_arg8 = karg m c Cert.KernelIdeal.main_arg8)
  (h9 : rarg m' c Cert.ReferenceIdeal.main_arg9 = karg m c Cert.KernelIdeal.main_arg9)

include hi h0 h9 in
theorem rows0 (r : Fin 128) : (fun k => Cert.ReferenceIdeal.Gen.V m' c Cert.ReferenceIdeal.main_v31 (ix2 r k)) = rowOf m c i r :=
  funext fun k => (Cert.ReferenceIdeal.Val.v31_apply m' c i (fun r => (congrFun h9 (ix1 r)).trans (hi r)) r k).trans (congrFun h0 _)

include hi h1 h9 in
theorem rows1 (r : Fin 128) : (fun k => Cert.ReferenceIdeal.Gen.V m' c Cert.ReferenceIdeal.main_v9 (ix2 r k))
    = fun k => karg m c Cert.KernelIdeal.main_arg1 (ix3 ⟨(i r).val / 128, by omega⟩ ⟨(i r).val % 128, by omega⟩ k) :=
  funext fun k => (Cert.ReferenceIdeal.Val.v9_apply m' c i (fun r => (congrFun h9 (ix1 r)).trans (hi r)) r k).trans (congrFun h1 _)

include hi h0 h2 h9 in
theorem codes (r : Fin 128) (k : Fin 3072) : Cert.ReferenceIdeal.Gen.V m' c Cert.ReferenceIdeal.main_v57 (ix2 r k) = YC m c (ix2 r k) :=
  (Cert.ReferenceIdeal.Val.v57_apply m' c r k).trans ((congrArg₂ (fun f g => rowCode f g k) (rows0 m m' i c hi h0 h9 r)
    (funext fun k => congrFun h2 (ix1 k))).trans (Cert.KernelIdeal.Track.YC_apply m i c hi r k).symm)

include hi h0 h2 h9 in
theorem scales (r : Fin 128) : Cert.ReferenceIdeal.Gen.V m' c Cert.ReferenceIdeal.main_v54 (ix2 r 0) = YS m c (ix2 r 0) :=
  (Cert.ReferenceIdeal.Val.v54_apply m' c r).trans ((congrArg₂ (fun f g => rowScale f g) (rows0 m m' i c hi h0 h9 r)
    (funext fun k => congrFun h2 (ix1 k))).trans (Cert.KernelIdeal.Track.YS_apply m i c hi r).symm)

include hi h1 h3 h9 in
theorem teacher_even (r : Fin 128) (k : Fin 2560) : Cert.ReferenceIdeal.Gen.V m' c Cert.ReferenceIdeal.main_v58 (ix2 r k)
    = HT m c (ix2 r ⟨2 * k.val, by omega⟩) :=
  (Cert.ReferenceIdeal.Val.v58_apply m' c r k).trans ((congrArg₂ (fun f g => teacherRow f g _) (rows1 m m' i c hi h1 h9 r)
    (funext fun k => congrFun h3 (ix1 k))).trans (Cert.KernelIdeal.Track.HT_apply m i c hi r _).symm)

include hi h1 h3 h9 in
theorem teacher_odd (r : Fin 128) (k : Fin 2560) : Cert.ReferenceIdeal.Gen.V m' c Cert.ReferenceIdeal.main_v59 (ix2 r k)
    = HT m c (ix2 r ⟨2 * k.val + 1, by omega⟩) :=
  (Cert.ReferenceIdeal.Val.v59_apply m' c r k).trans ((congrArg₂ (fun f g => teacherRow f g _) (rows1 m m' i c hi h1 h9 r)
    (funext fun k => congrFun h3 (ix1 k))).trans ((Cert.KernelIdeal.Track.HT_apply m i c hi r _).symm.trans
      (congrArg (fun x => HT m c (ix2 r x)) (Fin.ext (Nat.add_comm _ _)))))

include h4 in
theorem arg4_eq : Cert.ReferenceIdeal.Gen.V m' c Cert.ReferenceIdeal.main_arg4 = Cert.KernelIdeal.Gen.V m c Cert.KernelIdeal.main_arg4 :=
  (Cert.ReferenceIdeal.Gen.V_main_arg4 m' c).trans (h4.trans (Cert.KernelIdeal.Gen.V_main_arg4 m c).symm)
include h5 in
theorem arg5_eq : Cert.ReferenceIdeal.Gen.V m' c Cert.ReferenceIdeal.main_arg5 = Cert.KernelIdeal.Gen.V m c Cert.KernelIdeal.main_arg5 :=
  (Cert.ReferenceIdeal.Gen.V_main_arg5 m' c).trans (h5.trans (Cert.KernelIdeal.Gen.V_main_arg5 m c).symm)
include h6 in
theorem arg6_eq : Cert.ReferenceIdeal.Gen.V m' c Cert.ReferenceIdeal.main_arg6 = Cert.KernelIdeal.Gen.V m c Cert.KernelIdeal.main_arg6 :=
  (Cert.ReferenceIdeal.Gen.V_main_arg6 m' c).trans (h6.trans (Cert.KernelIdeal.Gen.V_main_arg6 m c).symm)
include h7 in
theorem arg7_eq : Cert.ReferenceIdeal.Gen.V m' c Cert.ReferenceIdeal.main_arg7 = Cert.KernelIdeal.Gen.V m c Cert.KernelIdeal.main_arg7 :=
  (Cert.ReferenceIdeal.Gen.V_main_arg7 m' c).trans (h7.trans (Cert.KernelIdeal.Gen.V_main_arg7 m c).symm)

include h8 in
theorem scale8 (k : Fin 32064) : Cert.ReferenceIdeal.Gen.V m' c Cert.ReferenceIdeal.main_v60 (ix2 0 k) = Cert.KernelIdeal.Gen.V m c Cert.KernelIdeal.main_v5 (ix2 0 k) :=
  (Cert.ReferenceIdeal.Val.v60_apply m' c k).trans ((congrFun h8 (ix1 k)).trans (Cert.KernelIdeal.Track.v5_apply m c k).symm)

/-- Codes pass through the reference's call. -/
theorem pay2_id (x : Vec Ideal Cert.ReferenceIdeal.S128x3072 .f32) (r : Fin 128) (k : Fin 3072) : Cert.ReferenceIdeal.Gen.k0_pay2 x (ix2 r k) = x (ix2 r k) := by
  pointwise [Cert.ReferenceIdeal.Gen.k0_pay2]

/-- Scales pass through the reference's call. -/
theorem pay3_id (x : Vec Ideal Cert.ReferenceIdeal.S128x1 .f32) (r : Fin 128) : Cert.ReferenceIdeal.Gen.k0_pay3 x (ix2 r 0) = x (ix2 r 0) := by
  pointwise [Cert.ReferenceIdeal.Gen.k0_pay3]

/-- A quotient by two, at an index. -/
theorem div_two (v : FVec Ideal Cert.ReferenceIdeal.S128x32064 .f32) (j : Cert.ReferenceIdeal.S128x32064.Idx) :
    divf v (broadcast Cert.ReferenceIdeal.S128x32064 (Scalar.ofBits .f32 0x40000000#32)) j = Ideal.div (v j) (Ideal.ofBits .f32 0x40000000#32) := rfl

include hi h1 h3 h4 h5 h6 h9 in
theorem lse_teacher (r : Fin 128) : Cert.ReferenceIdeal.Gen.k0_pay4 (Cert.ReferenceIdeal.Gen.k0_pay1
    (Cert.ReferenceIdeal.Gen.V m' c Cert.ReferenceIdeal.main_arg4) (Cert.ReferenceIdeal.Gen.V m' c Cert.ReferenceIdeal.main_arg6)
    (Cert.ReferenceIdeal.Gen.V m' c Cert.ReferenceIdeal.main_arg5) (Cert.ReferenceIdeal.Gen.V m' c Cert.ReferenceIdeal.main_v58)
    (Cert.ReferenceIdeal.Gen.V m' c Cert.ReferenceIdeal.main_v59)) (ix2 r 0) = LT m c (ix2 r 0) := by
  have e : ∀ k : Fin 32064, divf (Cert.ReferenceIdeal.Gen.k0_pay1
    (Cert.ReferenceIdeal.Gen.V m' c Cert.ReferenceIdeal.main_arg4) (Cert.ReferenceIdeal.Gen.V m' c Cert.ReferenceIdeal.main_arg6)
    (Cert.ReferenceIdeal.Gen.V m' c Cert.ReferenceIdeal.main_arg5) (Cert.ReferenceIdeal.Gen.V m' c Cert.ReferenceIdeal.main_v58)
    (Cert.ReferenceIdeal.Gen.V m' c Cert.ReferenceIdeal.main_v59)) (broadcast Cert.ReferenceIdeal.S128x32064 (Scalar.ofBits .f32 0x40000000#32)) (ix2 r k)
      = gT m c r k.val * ((Real.log 2 : ℝ) : EReal) := by
    intro k
    rw [div_two, half, teacher_sum _ _ _ (HT m c) _ _ r k (teacher_even m m' i c hi h1 h3 h9 r) (teacher_odd m m' i c hi h1 h3 h9 r)]
    unfold gT
    rw [dif_pos k.isLt, arg4_eq m m' c h4, arg5_eq m m' c h5, arg6_eq m m' c h6]
  rw [Cert.ReferenceIdeal.Val.pay4_apply, Cert.KernelIdeal.Track.LT_apply]
  exact congrArg (fun f => lseOf f - ((Real.log 32064 : ℝ) : EReal)) (funext e)

include hi h0 h2 h7 h8 h9 in
theorem lse_student (r : Fin 128) : Cert.ReferenceIdeal.Gen.k0_pay5 (Cert.ReferenceIdeal.Gen.k0_pay2 (Cert.ReferenceIdeal.Gen.V m' c Cert.ReferenceIdeal.main_v57))
    (Cert.ReferenceIdeal.Gen.k0_pay3 (Cert.ReferenceIdeal.Gen.V m' c Cert.ReferenceIdeal.main_v54))
    (Cert.ReferenceIdeal.Gen.V m' c Cert.ReferenceIdeal.main_arg7) (Cert.ReferenceIdeal.Gen.V m' c Cert.ReferenceIdeal.main_v60) (ix2 r 0) = LS m c (ix2 r 0) := by
  have e : ∀ k : Fin 32064, divf (Cert.ReferenceIdeal.Val.student (Cert.ReferenceIdeal.Gen.k0_pay2 (Cert.ReferenceIdeal.Gen.V m' c Cert.ReferenceIdeal.main_v57))
    (Cert.ReferenceIdeal.Gen.k0_pay3 (Cert.ReferenceIdeal.Gen.V m' c Cert.ReferenceIdeal.main_v54))
    (Cert.ReferenceIdeal.Gen.V m' c Cert.ReferenceIdeal.main_arg7) (Cert.ReferenceIdeal.Gen.V m' c Cert.ReferenceIdeal.main_v60))
      (broadcast Cert.ReferenceIdeal.S128x32064 (Scalar.ofBits .f32 0x40000000#32)) (ix2 r k)
      = gS m c r k.val * ((Real.log 2 : ℝ) : EReal) := by
    intro k
    have ec : ∀ x : Fin 3072, Cert.ReferenceIdeal.Gen.k0_pay2 (Cert.ReferenceIdeal.Gen.V m' c Cert.ReferenceIdeal.main_v57) (ix2 r x) = YC m c (ix2 r x) :=
      fun x => (pay2_id _ r x).trans (codes m m' i c hi h0 h2 h9 r x)
    rw [div_two, Cert.ReferenceIdeal.Val.student_apply, half_student, pay3_id, scales m m' i c hi h0 h2 h9 r, scale8 m m' c h8]
    simp only [ec]
    unfold gS
    rw [dif_pos k.isLt, arg7_eq m m' c h7]
  rw [Cert.ReferenceIdeal.Val.pay5_eq, Cert.ReferenceIdeal.Val.pay4_apply, Cert.KernelIdeal.Track.LS_apply]
  exact congrArg (fun f => lseOf f - ((Real.log 32064 : ℝ) : EReal)) (funext e)

end rows

end Cert.Equal

end
-- ==== Proof.Hand.Columns.lean ====
module

public import proofs.«01_k».proof.Proof.Hand.Steps

/-! # Twelve column stores fill the gradient accumulator -/

@[expose] public section

noncomputable section

namespace Cert.KernelIdeal.Hand

open Cert.KernelIdeal Cert.KernelIdeal.Gen
open Idealize.ShloMosaic

variable {F : FTy → Type} [FloatOps F] [Named F] [∀ e, Nonempty (Elt F e)]

/-- After the twelve stores of 256 columns each, the buffer holds the stored blocks side by side. -/
theorem read_columns {κ : Kind} {sp : Space} (v : View sig κ sp S256x3072 .f32) (f : v.ty.Contents (Elt F))
    (P : Fin 12 → Vec F S256x256 .f32) (g : Vec F S256x3072 .f32)
    (hg : ∀ y, g y = P ⟨(y 1).val / 256, Nat.div_lt_of_lt_mul (y 1).isLt⟩
      (ValueIdx.ix2 (n0 := 256) (n1 := 256) (y 0) ⟨(y 1).val % 256, Nat.mod_lt _ (by decide)⟩))
    (L : List (View.Piece (Elt F) S256x3072 .f32))
    (hL : L = View.tilePieces (Val := Elt F) (s := S256x3072) (e := .f32) S256x256.size
      (fun j : Fin 12 => ![0, 256 * j.val])
      (fun j a => by fin_cases a <;> simp [S256x256, S256x3072] <;> omega) P 12 (le_refl 12)) :
    v.read (Elt F) (v.writes (Elt F) f L) = g := by
  subst hL
  funext y
  rw [hg]
  have h1 : (y 1).val < 3072 := (y 1).isLt
  refine View.read_tilePieces v f S256x256.size _ _ P 12 (le_refl 12) y
    ⟨(y 1).val / 256, Nat.div_lt_of_lt_mul (y 1).isLt⟩ (by show (y 1).val / 256 < 12; omega) _ ?_ 1 ?_
  · intro a
    fin_cases a
    · show (y 0).val = 0 + (y 0).val; omega
    · show (y 1).val = 256 * ((y 1).val / 256) + (y 1).val % 256; omega
  · intro i' hi'
    show (y 1).val < 256 * i'.val ∨ 256 * i'.val + 256 ≤ (y 1).val
    have : i'.val ≠ (y 1).val / 256 := fun h => hi' (Fin.ext h)
    omega

end Cert.KernelIdeal.Hand
-- ==== Proof.Hand.RunFirst.lean ====
module

public import proofs.«01_k».proof.Proof.Hand.Columns
public import Idealize.ShloMosaic.Lib.Tactic.RunNames

/-! # The first grid point: the run -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 4000000 in
set_option maxRecDepth 100000 in
/-- At point 0 the body normalises and quantises the rows, clears the lane statistics and folds in the first logit tiles. -/
theorem run_first (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : k0_cond1 i = 1#1) (h2 : k0_cond2 i = 1#1) (h3 : ¬ k0_cond3 i = 1#1) (h4 : ¬ k0_cond4 i = 1#1) (h5 : ¬ k0_cond5 i = 1#1)
    (d2 : Vec F S128x1 .i32) (d3 : Vec F S256x3072 .bf16) (d4 : Vec F S256x5120 .bf16) (d5 : Vec F S1x3072 .f32) (d6 : Vec F S1x5120 .f32) (d7 : Vec F S2560x768 .i8) (d8 : Vec F S40x768 .f32) (d9 : Vec F S40x768 .f32) (d10 : Vec F S768x3072 .fp8e4m3) (d11 : Vec F S1x768 .f32) (d17 : Vec F S128x3072 .fp8e4m3) (d18 : Vec F S128x1 .f32) (d19 : Vec F S42x128x768 .f32) (d20 : Vec F S42x128x768 .f32) (d21 : Vec F S128x5120 .bf16) (d22 : Vec F S128x3072 .f32) (d23 : Vec F S128x1 .f32) (d25 : Vec F S128x128 .f32) (d26 : Vec F S128x128 .f32) (d27 : Vec F S128x128 .f32) (d28 : Vec F S128x128 .f32)  (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg25 fullShare d25 ∗ owns (c : Thread nD τ) arg26 fullShare d26 ∗ owns (c : Thread nD τ) arg27 fullShare d27 ∗ owns (c : Thread nD τ) arg28 fullShare d28 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare ((studentCodes (whole ![0, 0] d2 (by decide)) (whole ![0, 0] d3 (by decide)) (whole ![0, 0] d5 (by decide)))) ∗ owns (c : Thread nD τ) arg18 fullShare ((studentScales (whole ![0, 0] d2 (by decide)) (whole ![0, 0] d3 (by decide)) (whole ![0, 0] d5 (by decide)))) ∗ owns (c : Thread nD τ) arg19 fullShare (VecWindow.put d19 ![(i 0).val, 0, 0] S1x128x768.size (shapeCast S1x128x768 (teacherTile (BitVec.ofNat 32 (i 0).val) d7 d8 d9 (stored arg21 ![0, 0] (teacherRows (whole ![0, 0] d2 (by decide)) (whole ![0, 0] d4 (by decide)) (whole ![0, 0] d6 (by decide))) (by decide))) shapeCasts_S128x768_S1x128x768)) ∗ owns (c : Thread nD τ) arg20 fullShare (VecWindow.put d20 ![(i 0).val, 0, 0] S1x128x768.size (shapeCast S1x128x768 (studentTile (BitVec.ofNat 32 (i 0).val) (whole ![0, 0] (stored arg17 ![0, 0] (studentCodes (whole ![0, 0] d2 (by decide)) (whole ![0, 0] d3 (by decide)) (whole ![0, 0] d5 (by decide))) (by decide)) (by decide)) (whole ![0, 0] d10 (by decide)) (whole ![0, 0] (stored arg18 ![0, 0] (studentScales (whole ![0, 0] d2 (by decide)) (whole ![0, 0] d3 (by decide)) (whole ![0, 0] d5 (by decide))) (by decide)) (by decide)) (whole ![0, 0] d11 (by decide))) shapeCasts_S128x768_S1x128x768)) ∗ owns (c : Thread nD τ) arg21 fullShare ((teacherRows (whole ![0, 0] d2 (by decide)) (whole ![0, 0] d4 (by decide)) (whole ![0, 0] d6 (by decide)))) ∗ owns (c : Thread nD τ) arg22 fullShare (k0_pay17 (whole ![0, 0] d2 (by decide)) (whole ![0, 0] d3 (by decide))) ∗ owns (c : Thread nD τ) arg23 fullShare (k0_pay16 (whole ![0, 0] d2 (by decide)) (whole ![0, 0] d3 (by decide))) ∗ owns (c : Thread nD τ) arg25 fullShare (foldMax (teacherTile (BitVec.ofNat 32 (i 0).val) d7 d8 d9 (stored arg21 ![0, 0] (teacherRows (whole ![0, 0] d2 (by decide)) (whole ![0, 0] d4 (by decide)) (whole ![0, 0] d6 (by decide))) (by decide))) (whole ![0, 0] (stored arg25 ![0, 0] k0_pay27 (by decide)) (by decide))) ∗ owns (c : Thread nD τ) arg26 fullShare (foldSum (teacherTile (BitVec.ofNat 32 (i 0).val) d7 d8 d9 (stored arg21 ![0, 0] (teacherRows (whole ![0, 0] d2 (by decide)) (whole ![0, 0] d4 (by decide)) (whole ![0, 0] d6 (by decide))) (by decide))) (whole ![0, 0] (stored arg25 ![0, 0] k0_pay27 (by decide)) (by decide)) (whole ![0, 0] (stored arg26 ![0, 0] k0_pay2 (by decide)) (by decide))) ∗ owns (c : Thread nD τ) arg27 fullShare (foldMax (studentTile (BitVec.ofNat 32 (i 0).val) (whole ![0, 0] (stored arg17 ![0, 0] (studentCodes (whole ![0, 0] d2 (by decide)) (whole ![0, 0] d3 (by decide)) (whole ![0, 0] d5 (by decide))) (by decide)) (by decide)) (whole ![0, 0] d10 (by decide)) (whole ![0, 0] (stored arg18 ![0, 0] (studentScales (whole ![0, 0] d2 (by decide)) (whole ![0, 0] d3 (by decide)) (whole ![0, 0] d5 (by decide))) (by decide)) (by decide)) (whole ![0, 0] d11 (by decide))) (whole ![0, 0] (stored arg27 ![0, 0] k0_pay1 (by decide)) (by decide))) ∗ owns (c : Thread nD τ) arg28 fullShare (foldSum (studentTile (BitVec.ofNat 32 (i 0).val) (whole ![0, 0] (stored arg17 ![0, 0] (studentCodes (whole ![0, 0] d2 (by decide)) (whole ![0, 0] d3 (by decide)) (whole ![0, 0] d5 (by decide))) (by decide)) (by decide)) (whole ![0, 0] d10 (by decide)) (whole ![0, 0] (stored arg18 ![0, 0] (studentScales (whole ![0, 0] d2 (by decide)) (whole ![0, 0] d3 (by decide)) (whole ![0, 0] d5 (by decide))) (by decide)) (by decide)) (whole ![0, 0] d11 (by decide))) (whole ![0, 0] (stored arg27 ![0, 0] k0_pay1 (by decide)) (by decide)) (whole ![0, 0] (stored arg28 ![0, 0] k0_pay3 (by decide)) (by decide)))) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f25, %hf25, H25⟩, ⟨%f26, %hf26, H26⟩, ⟨%f27, %hf27, H27⟩, ⟨%f28, %hf28, H28⟩, Hk⟩
  subst hf2
  subst hf3
  subst hf4
  subst hf5
  subst hf6
  subst hf7
  subst hf8
  subst hf9
  subst hf10
  subst hf11
  subst hf17
  subst hf18
  subst hf19
  subst hf20
  subst hf21
  subst hf22
  subst hf23
  subst hf25
  subst hf26
  subst hf27
  subst hf28
  sl_exec
  sl_step
  iapply Hk
  isplitl [H2]
  · iexists _; isplitr; swap; iexact H2; ipureintro
    rfl
  isplitl [H3]
  · iexists _; isplitr; swap; iexact H3; ipureintro
    rfl
  isplitl [H4]
  · iexists _; isplitr; swap; iexact H4; ipureintro
    rfl
  isplitl [H5]
  · iexists _; isplitr; swap; iexact H5; ipureintro
    rfl
  isplitl [H6]
  · iexists _; isplitr; swap; iexact H6; ipureintro
    rfl
  isplitl [H7]
  · iexists _; isplitr; swap; iexact H7; ipureintro
    rfl
  isplitl [H8]
  · iexists _; isplitr; swap; iexact H8; ipureintro
    rfl
  isplitl [H9]
  · iexists _; isplitr; swap; iexact H9; ipureintro
    rfl
  isplitl [H10]
  · iexists _; isplitr; swap; iexact H10; ipureintro
    rfl
  isplitl [H11]
  · iexists _; isplitr; swap; iexact H11; ipureintro
    rfl
  isplitl [H17]
  · iexists _; isplitr; swap; iexact H17; ipureintro
    exact View.read_writes_full _ _ _ _ _
  isplitl [H18]
  · iexists _; isplitr; swap; iexact H18; ipureintro
    exact View.read_writes_full _ _ _ _ _
  isplitl [H19]
  · iexists _; isplitr; swap; iexact H19; ipureintro
    exact View.read_writes_cons_put _ _ _ _ [] (k0_off1_eq i)
  isplitl [H20]
  · iexists _; isplitr; swap; iexact H20; ipureintro
    exact View.read_writes_cons_put _ _ _ _ [] (k0_off1_eq i)
  isplitl [H21]
  · iexists _; isplitr; swap; iexact H21; ipureintro
    exact View.read_writes_full _ _ _ _ _
  isplitl [H22]
  · iexists _; isplitr; swap; iexact H22; ipureintro
    exact (View.read_writes_full _ _ _ _ _).trans (shapeCast_self _ _)
  isplitl [H23]
  · iexists _; isplitr; swap; iexact H23; ipureintro
    exact (View.read_writes_full _ _ _ _ _).trans (shapeCast_self _ _)
  isplitl [H25]
  · iexists _; isplitr; swap; iexact H25; ipureintro
    exact (View.read_writes_full _ _ _ _ _).trans ((shapeCast_self _ _).trans rfl)
  isplitl [H26]
  · iexists _; isplitr; swap; iexact H26; ipureintro
    exact (View.read_writes_full _ _ _ _ _).trans ((shapeCast_self _ _).trans rfl)
  isplitl [H27]
  · iexists _; isplitr; swap; iexact H27; ipureintro
    exact (View.read_writes_full _ _ _ _ _).trans ((shapeCast_self _ _).trans rfl)
  · iexists _; isplitr; swap; iexact H28; ipureintro
    exact (View.read_writes_full _ _ _ _ _).trans ((shapeCast_self _ _).trans rfl)

end Cert.KernelIdeal.Hand
-- ==== Proof.Hand.RunLogits.lean ====
module

public import proofs.«01_k».proof.Proof.Hand.Columns
public import Idealize.ShloMosaic.Lib.Tactic.RunNames

/-! # One tile of logits: the run -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 4000000 in
set_option maxRecDepth 100000 in
/-- At a point between 1 and 41 the body stores the two logit tiles and folds them into the running lane statistics. -/
theorem run_logits (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : k0_cond2 i = 1#1) (h3 : ¬ k0_cond3 i = 1#1) (h4 : ¬ k0_cond4 i = 1#1) (h5 : ¬ k0_cond5 i = 1#1)
    (d7 : Vec F S2560x768 .i8) (d8 : Vec F S40x768 .f32) (d9 : Vec F S40x768 .f32) (d10 : Vec F S768x3072 .fp8e4m3) (d11 : Vec F S1x768 .f32) (d17 : Vec F S128x3072 .fp8e4m3) (d18 : Vec F S128x1 .f32) (d19 : Vec F S42x128x768 .f32) (d20 : Vec F S42x128x768 .f32) (d21 : Vec F S128x5120 .bf16) (d25 : Vec F S128x128 .f32) (d26 : Vec F S128x128 .f32) (d27 : Vec F S128x128 .f32) (d28 : Vec F S128x128 .f32)  (K : PUnit → sProp 𝕄) :
    iprop(owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg25 fullShare d25 ∗ owns (c : Thread nD τ) arg26 fullShare d26 ∗ owns (c : Thread nD τ) arg27 fullShare d27 ∗ owns (c : Thread nD τ) arg28 fullShare d28 ∗ (iprop(owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg17 fullShare d17 ∗ owns (c : Thread nD τ) arg18 fullShare d18 ∗ owns (c : Thread nD τ) arg19 fullShare (VecWindow.put d19 ![(i 0).val, 0, 0] S1x128x768.size (shapeCast S1x128x768 (teacherTile (BitVec.ofNat 32 (i 0).val) d7 d8 d9 d21) shapeCasts_S128x768_S1x128x768)) ∗ owns (c : Thread nD τ) arg20 fullShare (VecWindow.put d20 ![(i 0).val, 0, 0] S1x128x768.size (shapeCast S1x128x768 (studentTile (BitVec.ofNat 32 (i 0).val) (whole ![0, 0] d17 (by decide)) (whole ![0, 0] d10 (by decide)) (whole ![0, 0] d18 (by decide)) (whole ![0, 0] d11 (by decide))) shapeCasts_S128x768_S1x128x768)) ∗ owns (c : Thread nD τ) arg21 fullShare d21 ∗ owns (c : Thread nD τ) arg25 fullShare (foldMax (teacherTile (BitVec.ofNat 32 (i 0).val) d7 d8 d9 d21) (whole ![0, 0] d25 (by decide))) ∗ owns (c : Thread nD τ) arg26 fullShare (foldSum (teacherTile (BitVec.ofNat 32 (i 0).val) d7 d8 d9 d21) (whole ![0, 0] d25 (by decide)) (whole ![0, 0] d26 (by decide))) ∗ owns (c : Thread nD τ) arg27 fullShare (foldMax (studentTile (BitVec.ofNat 32 (i 0).val) (whole ![0, 0] d17 (by decide)) (whole ![0, 0] d10 (by decide)) (whole ![0, 0] d18 (by decide)) (whole ![0, 0] d11 (by decide))) (whole ![0, 0] d27 (by decide))) ∗ owns (c : Thread nD τ) arg28 fullShare (foldSum (studentTile (BitVec.ofNat 32 (i 0).val) (whole ![0, 0] d17 (by decide)) (whole ![0, 0] d10 (by decide)) (whole ![0, 0] d18 (by decide)) (whole ![0, 0] d11 (by decide))) (whole ![0, 0] d27 (by decide)) (whole ![0, 0] d28 (by decide)))) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%f19, %hf19, H19⟩, ⟨%f20, %hf20, H20⟩, ⟨%f21, %hf21, H21⟩, ⟨%f25, %hf25, H25⟩, ⟨%f26, %hf26, H26⟩, ⟨%f27, %hf27, H27⟩, ⟨%f28, %hf28, H28⟩, Hk⟩
  subst hf7
  subst hf8
  subst hf9
  subst hf10
  subst hf11
  subst hf17
  subst hf18
  subst hf19
  subst hf20
  subst hf21
  subst hf25
  subst hf26
  subst hf27
  subst hf28
  sl_exec
  sl_step
  iapply Hk
  isplitl [H7]
  · iexists _; isplitr; swap; iexact H7; ipureintro
    rfl
  isplitl [H8]
  · iexists _; isplitr; swap; iexact H8; ipureintro
    rfl
  isplitl [H9]
  · iexists _; isplitr; swap; iexact H9; ipureintro
    rfl
  isplitl [H10]
  · iexists _; isplitr; swap; iexact H10; ipureintro
    rfl
  isplitl [H11]
  · iexists _; isplitr; swap; iexact H11; ipureintro
    rfl
  isplitl [H17]
  · iexists _; isplitr; swap; iexact H17; ipureintro
    rfl
  isplitl [H18]
  · iexists _; isplitr; swap; iexact H18; ipureintro
    rfl
  isplitl [H19]
  · iexists _; isplitr; swap; iexact H19; ipureintro
    exact View.read_writes_cons_put _ _ _ _ [] (k0_off1_eq i)
  isplitl [H20]
  · iexists _; isplitr; swap; iexact H20; ipureintro
    exact View.read_writes_cons_put _ _ _ _ [] (k0_off1_eq i)
  isplitl [H21]
  · iexists _; isplitr; swap; iexact H21; ipureintro
    rfl
  isplitl [H25]
  · iexists _; isplitr; swap; iexact H25; ipureintro
    exact (View.read_writes_full _ _ _ _ _).trans ((shapeCast_self _ _).trans rfl)
  isplitl [H26]
  · iexists _; isplitr; swap; iexact H26; ipureintro
    exact (View.read_writes_full _ _ _ _ _).trans ((shapeCast_self _ _).trans rfl)
  isplitl [H27]
  · iexists _; isplitr; swap; iexact H27; ipureintro
    exact (View.read_writes_full _ _ _ _ _).trans ((shapeCast_self _ _).trans rfl)
  · iexists _; isplitr; swap; iexact H28; ipureintro
    exact (View.read_writes_full _ _ _ _ _).trans ((shapeCast_self _ _).trans rfl)

end Cert.KernelIdeal.Hand
-- ==== Proof.Hand.RunLse.lean ====
module

public import proofs.«01_k».proof.Proof.Hand.Columns
public import Idealize.ShloMosaic.Lib.Tactic.RunNames

/-! # The logsumexps: the run at point 42 -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

set_option maxHeartbeats 4000000 in
set_option maxRecDepth 100000 in
/-- At point 42 the body writes the two logsumexps. -/
theorem half_mid (c : Dev nD) (E : Set ℕ) (i : grid0.Coords) (arg1 : Memref sig .tc .smem S1 .i32) (harg1 : arg1.IsWhole) (arg2 : Memref sig .tc .vmem S128x1 .i32) (harg2 : arg2.IsWhole) (arg3 : Memref sig .tc .vmem S256x3072 .bf16) (harg3 : arg3.IsWhole) (arg4 : Memref sig .tc .vmem S256x5120 .bf16) (harg4 : arg4.IsWhole) (arg5 : Memref sig .tc .vmem S1x3072 .f32) (harg5 : arg5.IsWhole) (arg6 : Memref sig .tc .vmem S1x5120 .f32) (harg6 : arg6.IsWhole) (arg7 : Memref sig .tc .vmem S2560x768 .i8) (harg7 : arg7.IsWhole) (arg8 : Memref sig .tc .vmem S40x768 .f32) (harg8 : arg8.IsWhole) (arg9 : Memref sig .tc .vmem S40x768 .f32) (harg9 : arg9.IsWhole) (arg10 : Memref sig .tc .vmem S768x3072 .fp8e4m3) (harg10 : arg10.IsWhole) (arg11 : Memref sig .tc .vmem S1x768 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S128x3072 .bf16) (harg15 : arg15.IsWhole) (arg16 : Memref sig .tc .vmem S128x3072 .f32) (harg16 : arg16.IsWhole) (arg17 : Memref sig .tc .vmem S128x3072 .fp8e4m3) (harg17 : arg17.IsWhole) (arg18 : Memref sig .tc .vmem S128x1 .f32) (harg18 : arg18.IsWhole) (arg19 : Memref sig .tc .vmem S42x128x768 .f32) (harg19 : arg19.IsWhole) (arg20 : Memref sig .tc .vmem S42x128x768 .f32) (harg20 : arg20.IsWhole) (arg21 : Memref sig .tc .vmem S128x5120 .bf16) (harg21 : arg21.IsWhole) (arg22 : Memref sig .tc .vmem S128x3072 .f32) (harg22 : arg22.IsWhole) (arg23 : Memref sig .tc .vmem S128x1 .f32) (harg23 : arg23.IsWhole) (arg24 : Memref sig .tc .vmem S256x3072 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole)
    (h1 : ¬ k0_cond1 i = 1#1) (h2 : ¬ k0_cond2 i = 1#1) (h3 : k0_cond3 i = 1#1) (h4 : k0_cond4 i = 1#1) (h5 : ¬ k0_cond5 i = 1#1)
    (d10 : Vec F S768x3072 .fp8e4m3) (d11 : Vec F S1x768 .f32) (d13 : Vec F S128x1 .f32) (d14 : Vec F S128x1 .f32) (d19 : Vec F S42x128x768 .f32) (d20 : Vec F S42x128x768 .f32) (d24 : Vec F S256x3072 .f32) (d25 : Vec F S128x128 .f32) (d26 : Vec F S128x128 .f32) (d27 : Vec F S128x128 .f32) (d28 : Vec F S128x128 .f32) (d29 : Vec F S128x128 .f32) (d30 : Vec F S128x128 .f32)  (K : PUnit → sProp 𝕄) :
    iprop(owns (c : Thread nD τ) arg10 fullShare d10 ∗ owns (c : Thread nD τ) arg11 fullShare d11 ∗ owns (c : Thread nD τ) arg13 fullShare d13 ∗ owns (c : Thread nD τ) arg14 fullShare d14 ∗ owns (c : Thread nD τ) arg19 fullShare d19 ∗ owns (c : Thread nD τ) arg20 fullShare d20 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ owns (c : Thread nD τ) arg30 fullShare d30 ∗ (iprop(owns (c : Thread nD τ) arg10 fullShare d10 ∗ owns (c : Thread nD τ) arg11 fullShare d11 ∗ owns (c : Thread nD τ) arg13 fullShare (k0_pay91 (whole ![0, 0] d25 (by decide)) (whole ![0, 0] d26 (by decide))) ∗ owns (c : Thread nD τ) arg14 fullShare (k0_pay7 (k0_pay92 (whole ![0, 0] d27 (by decide)) (whole ![0, 0] d28 (by decide)))) ∗ owns (c : Thread nD τ) arg19 fullShare d19 ∗ owns (c : Thread nD τ) arg20 fullShare d20 ∗ (∃ d, owns (c : Thread nD τ) arg24 fullShare d) ∗ (∃ d, owns (c : Thread nD τ) arg25 fullShare d) ∗ owns (c : Thread nD τ) arg26 fullShare d26 ∗ (∃ d, owns (c : Thread nD τ) arg27 fullShare d) ∗ owns (c : Thread nD τ) arg28 fullShare d28 ∗ (∃ d, owns (c : Thread nD τ) arg29 fullShare d) ∗ (∃ d, owns (c : Thread nD τ) arg30 fullShare d)) -∗ K ⟨⟩))
      ⊢ wp frame (wpE (defs₀ (F := F)) Variants.none c none) E (cc0_gkd_jsd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_gkd_jsd_eq_skeleton]; unfold cc0_gkd_jsd_skel
  unfold owns
  iintro ⟨⟨%f10, %hf10, H10⟩, ⟨%f11, %hf11, H11⟩, ⟨%f13, %hf13, H13⟩, ⟨%f14, %hf14, H14⟩, ⟨%f19, %hf19, H19⟩, ⟨%f20, %hf20, H20⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
  subst hf10
  subst hf11
  subst hf13
  subst hf14
  subst hf19
  subst hf20
  subst hf24
  subst hf25
  subst hf26
  subst hf27
  subst hf28
  subst hf29
  subst hf30
  sl_exec
  sl_step
  iapply Hk
  isplitl [H10]
  · iexists _; isplitr; swap; iexact H10; ipureintro
    rfl
  isplitl [H11]
  · iexists _; isplitr; swap; iexact H11; ipureintro
    rfl
  isplitl [H13]
  · iexists _; isplitr; swap; iexact H13; ipureintro
    exact (View.read_writes_full _ _ _ _ _).trans rfl
  isplitl [H14]
  · iexists _; isplitr; swap; iexact H14; ipureintro
    exact (View.read_writes_full _ _ _ _ _).trans rfl
  isplitl [H19]
  · iexists _; isplitr; swap; iexact H19; ipureintro
    rfl
  isplitl [H20]
  · iexists _; isplitr; swap; iexact H20; ipureintro
    rfl
  isplitl [H24]
  · iexists _; iexists _; isplitr; swap; iexact H24; ipureintro
    rfl
  isplitl [H25]
  · iexists _; iexists _; isplitr; swap; iexact H25; ipureintro
    rfl
  isplitl [H26]
  · iexists _; isplitr; swap; iexact H26; ipureintro
    rfl
  isplitl [H27]
  · iexists _; iexists _; isplitr; swap; iexact H27; ipureintro
    rfl
  isplitl [H28]
  · iexists _; isplitr; swap; iexact H28; ipureintro
    rfl
  isplitl [H29]
  · iexists _; iexists _; isplitr; swap; iexact H29; ipureintro
    rfl
  · iexists _; iexists _; isplitr; swap; iexact H30; ipureintro
    rfl

end Cert.KernelIdeal.Hand
-- ==== Proof.Hand.Track.Data.lean ====
module

public import proofs.«01_k».proof.Proof.Hand.Track.Spec
public import proofs.«01_k».proof.Proof.Hand.FrameIdeal.Run

/-! # The proof data with contents -/

@[expose] public section

noncomputable section

namespace Cert.KernelIdeal.Track

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

/-- Between grid points the scratch buffers satisfy the invariant. -/
def ScratchAt (c : Dev nD) (t : ℕ) : sProp 𝕄 :=
  iprop((∃ e19 e20 e21 e22 e23 e24 e25 e26 e27 e28 e29 e30, ⌜Inv m c t e21 e25 e26 e27 e28⌝ ∗ owns (c : Thread nD τ) (Memref.whole cc0_scratch0) fullShare e19 ∗ owns (c : Thread nD τ) (Memref.whole cc0_scratch1) fullShare e20 ∗ owns (c : Thread nD τ) (Memref.whole cc0_scratch2) fullShare e21 ∗ owns (c : Thread nD τ) (Memref.whole cc0_scratch3) fullShare e22 ∗ owns (c : Thread nD τ) (Memref.whole cc0_scratch4) fullShare e23 ∗ owns (c : Thread nD τ) (Memref.whole cc0_scratch5) fullShare e24 ∗ owns (c : Thread nD τ) (Memref.whole cc0_scratch6) fullShare e25 ∗ owns (c : Thread nD τ) (Memref.whole cc0_scratch7) fullShare e26 ∗ owns (c : Thread nD τ) (Memref.whole cc0_scratch8) fullShare e27 ∗ owns (c : Thread nD τ) (Memref.whole cc0_scratch9) fullShare e28 ∗ owns (c : Thread nD τ) (Memref.whole cc0_scratch10) fullShare e29 ∗ owns (c : Thread nD τ) (Memref.whole cc0_scratch11) fullShare e30) ∗ ∃ r, prngReg c r)

/-- What the body leaves in the buffers of the windows: inputs as found; the codes and scales from point 0 on, the
logsumexps from point 42 on. -/
def rdat (c : Dev nD) : RDat τ (Elt Ideal) Unit ℕ (UR sig nD τ) ℕ cfg0 c where
  A w := V m c (Pipeline.arrRef spec0 w)
  after w := match w with
    | ⟨0, _⟩ => fun t Y X => X = Y
    | ⟨1, _⟩ => fun t Y X => X = Y
    | ⟨2, _⟩ => fun t Y X => X = Y
    | ⟨3, _⟩ => fun t Y X => X = Y
    | ⟨4, _⟩ => fun t Y X => X = Y
    | ⟨5, _⟩ => fun t Y X => X = Y
    | ⟨6, _⟩ => fun t Y X => X = Y
    | ⟨7, _⟩ => fun t Y X => X = Y
    | ⟨8, _⟩ => fun t Y X => X = Y
    | ⟨9, _⟩ => fun t Y X => X = Y
    | ⟨10, _⟩ => fun t Y X => X = Y
    | ⟨11, _⟩ => fun t Y X => True
    | ⟨12, _⟩ => fun t Y X => (t.val = 42 → X = LT m c) ∧ (42 < t.val → X = Y)
    | ⟨13, _⟩ => fun t Y X => (t.val = 42 → X = LS m c) ∧ (42 < t.val → X = Y)
    | ⟨14, _⟩ => fun t Y X => True
    | ⟨15, _⟩ => fun t Y X => True
    | ⟨16, _⟩ => fun t Y X => (t.val = 0 → X = YC m c) ∧ (0 < t.val → X = Y)
    | ⟨17, _⟩ => fun t Y X => (t.val = 0 → X = YS m c) ∧ (0 < t.val → X = Y)
    | ⟨_ + 18, _⟩ => fun _ _ _ => True
  Φ t := ScratchAt m c t.val
  q _ := fullShare
  owed _ := 0

/-- What the body is handed at a point, and what it hands back. -/
def bodyPre (c : Dev nD) (t : Fin cfg0.N) (Y : (w : Fin cfg0.W) → (cfg0.win w).block.Idx → Elt Ideal (cfg0.win w).elt) : sProp 𝕄 :=
  iprop(ScratchAt m c t.val ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17))

def bodyPost (c : Dev nD) (t : Fin cfg0.N) (Y : (w : Fin cfg0.W) → (cfg0.win w).block.Idx → Elt Ideal (cfg0.win w).elt) : sProp 𝕄 :=
  iprop(ScratchAt m c (t.val + 1) ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X) ∗ (∃ X, ⌜(rdat m c).after 11 t (Y 11) X⌝ ∗ owns (c : Thread nD τ) (st0_11 t) fullShare X) ∗ (∃ X, ⌜(rdat m c).after 12 t (Y 12) X⌝ ∗ owns (c : Thread nD τ) (st0_12 t) fullShare X) ∗ (∃ X, ⌜(rdat m c).after 13 t (Y 13) X⌝ ∗ owns (c : Thread nD τ) (st0_13 t) fullShare X) ∗ (∃ X, ⌜(rdat m c).after 14 t (Y 14) X⌝ ∗ owns (c : Thread nD τ) (st0_14 t) fullShare X) ∗ (∃ X, ⌜(rdat m c).after 15 t (Y 15) X⌝ ∗ owns (c : Thread nD τ) (st0_15 t) fullShare X) ∗ (∃ X, ⌜(rdat m c).after 16 t (Y 16) X⌝ ∗ owns (c : Thread nD τ) (st0_16 t) fullShare X) ∗ (∃ X, ⌜(rdat m c).after 17 t (Y 17) X⌝ ∗ owns (c : Thread nD τ) (st0_17 t) fullShare X))

/-- The windows that fetch at a point fetch `blk` there, up to what lies outside the array. -/
theorem fetched_whole (c : Dev nD) (w : Fin cfg0.W) (hw : ∀ a, (cfg0.win w).clip (cfg0.grid.coords t0) a = none)
    (hf : (cfg0.win w).fetch t0 = true) (X : (cfg0.win w).block.Idx → Elt Ideal (cfg0.win w).elt)
    (h : (rdat m c).Finds w t0 X) : X = blk m c w t0 := by
  obtain ⟨d, rfl⟩ := ((rdat m c).finds_of_fetch hf X).mp h
  exact Pipeline.fill_of_clip_none w _ hw _ _ _

/-- After point 0 window 16 holds what that point left. -/
theorem finds_codes (c : Dev nD) : ∀ (n : ℕ) (hn : n < cfg0.N), 0 < n → ∀ X, (rdat m c).Finds 16 ⟨n, hn⟩ X → X = YC m c := by
  intro n
  induction n with
  | zero => intro hn h; omega
  | succ n ih =>
    intro hn h X hX
    have hN : n + 1 < 84 := hn
    have hf : (cfg0.win 16).fetch ⟨n + 1, hn⟩ = false := by rfl
    rw [(rdat m c).finds_of_pos hf (by simp)] at hX
    rcases hX with hX | ⟨Y, hY, hX⟩
    · have := (flush0_16 _).mp hX
      simp at this; omega
    · rcases Nat.lt_or_ge 0 n with h0 | h0
      · exact (hX.2 h0).trans (ih (by omega) h0 Y hY)
      · exact hX.1 (by show n + 1 - 1 = 0; omega)

theorem leaves_codes (c : Dev nD) (X : (cfg0.win 16).block.Idx → Elt Ideal (cfg0.win 16).elt)
    (h : (rdat m c).Leaves 16 ⟨83, by decide⟩ X) : X = YC m c := by
  obtain ⟨Y, hY, hX⟩ := h
  exact (hX.2 (by decide)).trans (finds_codes m c 83 (by decide) (by decide) Y hY)

/-- After point 0 window 17 holds what that point left. -/
theorem finds_scales (c : Dev nD) : ∀ (n : ℕ) (hn : n < cfg0.N), 0 < n → ∀ X, (rdat m c).Finds 17 ⟨n, hn⟩ X → X = YS m c := by
  intro n
  induction n with
  | zero => intro hn h; omega
  | succ n ih =>
    intro hn h X hX
    have hN : n + 1 < 84 := hn
    have hf : (cfg0.win 17).fetch ⟨n + 1, hn⟩ = false := by rfl
    rw [(rdat m c).finds_of_pos hf (by simp)] at hX
    rcases hX with hX | ⟨Y, hY, hX⟩
    · have := (flush0_17 _).mp hX
      simp at this; omega
    · rcases Nat.lt_or_ge 0 n with h0 | h0
      · exact (hX.2 h0).trans (ih (by omega) h0 Y hY)
      · exact hX.1 (by show n + 1 - 1 = 0; omega)

theorem leaves_scales (c : Dev nD) (X : (cfg0.win 17).block.Idx → Elt Ideal (cfg0.win 17).elt)
    (h : (rdat m c).Leaves 17 ⟨83, by decide⟩ X) : X = YS m c := by
  obtain ⟨Y, hY, hX⟩ := h
  exact (hX.2 (by decide)).trans (finds_scales m c 83 (by decide) (by decide) Y hY)

/-- After point 42 window 12 holds what that point left. -/
theorem finds_lt (c : Dev nD) : ∀ (n : ℕ) (hn : n < cfg0.N), 42 < n → ∀ X, (rdat m c).Finds 12 ⟨n, hn⟩ X → X = LT m c := by
  intro n
  induction n with
  | zero => intro hn h; omega
  | succ n ih =>
    intro hn h X hX
    have hN : n + 1 < 84 := hn
    have hf : (cfg0.win 12).fetch ⟨n + 1, hn⟩ = false := by rfl
    rw [(rdat m c).finds_of_pos hf (by simp)] at hX
    rcases hX with hX | ⟨Y, hY, hX⟩
    · have := (flush0_12 _).mp hX
      simp at this; omega
    · rcases Nat.lt_or_ge 42 n with h0 | h0
      · exact (hX.2 h0).trans (ih (by omega) h0 Y hY)
      · exact hX.1 (by show n + 1 - 1 = 42; omega)

theorem leaves_lt (c : Dev nD) (X : (cfg0.win 12).block.Idx → Elt Ideal (cfg0.win 12).elt)
    (h : (rdat m c).Leaves 12 ⟨83, by decide⟩ X) : X = LT m c := by
  obtain ⟨Y, hY, hX⟩ := h
  exact (hX.2 (by decide)).trans (finds_lt m c 83 (by decide) (by decide) Y hY)

/-- After point 42 window 13 holds what that point left. -/
theorem finds_ls (c : Dev nD) : ∀ (n : ℕ) (hn : n < cfg0.N), 42 < n → ∀ X, (rdat m c).Finds 13 ⟨n, hn⟩ X → X = LS m c := by
  intro n
  induction n with
  | zero => intro hn h; omega
  | succ n ih =>
    intro hn h X hX
    have hN : n + 1 < 84 := hn
    have hf : (cfg0.win 13).fetch ⟨n + 1, hn⟩ = false := by rfl
    rw [(rdat m c).finds_of_pos hf (by simp)] at hX
    rcases hX with hX | ⟨Y, hY, hX⟩
    · have := (flush0_13 _).mp hX
      simp at this; omega
    · rcases Nat.lt_or_ge 42 n with h0 | h0
      · exact (hX.2 h0).trans (ih (by omega) h0 Y hY)
      · exact hX.1 (by show n + 1 - 1 = 42; omega)

theorem leaves_ls (c : Dev nD) (X : (cfg0.win 13).block.Idx → Elt Ideal (cfg0.win 13).elt)
    (h : (rdat m c).Leaves 13 ⟨83, by decide⟩ X) : X = LS m c := by
  obtain ⟨Y, hY, hX⟩ := h
  exact (hX.2 (by decide)).trans (finds_ls m c 83 (by decide) (by decide) Y hY)

end Cert.KernelIdeal.Track

end
-- ==== Proof.Hand.Track.Run.lean ====
module

public import proofs.«01_k».proof.Proof.Hand.RunFirst
public import proofs.«01_k».proof.Proof.Hand.RunLogits
public import proofs.«01_k».proof.Proof.Hand.RunLse
public import proofs.«01_k».proof.Proof.Hand.Track.Data
public import proofs.«01_k».proof.Proof.Hand.Track.Tiles

/-! # The tracked run -/

@[expose] public section

noncomputable section

namespace Cert.KernelIdeal.Track

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

local notation "𝕄" => MT nD τ sig Unit (Elt Ideal) ℕ (UR sig nD τ) ℕ

variable (m : (ℓ : Loc nD τ sig) → Buf (Elt Ideal) ℓ) (ρ : Dev nD → PrngReg)

theorem fetch6 : ∀ t : Fin cfg0.N, t.val < 42 → (cfg0.win 6).fetch t = true := by decide +kernel
theorem fetch7 : ∀ t : Fin cfg0.N, t.val < 42 → (cfg0.win 7).fetch t = true := by decide +kernel
theorem fetch8 : ∀ t : Fin cfg0.N, t.val < 42 → (cfg0.win 8).fetch t = true := by decide +kernel
theorem fetch9 : ∀ t : Fin cfg0.N, t.val < 42 → (cfg0.win 9).fetch t = true := by decide +kernel
theorem fetch10 : ∀ t : Fin cfg0.N, t.val < 42 → (cfg0.win 10).fetch t = true := by decide +kernel

theorem codes_first (c : Dev nD) (Y1 : Vec Ideal S128x1 .i32) (Y2 : Vec Ideal S256x3072 .bf16) (Y4 : Vec Ideal S1x3072 .f32)
    (y1 : Y1 = blk m c 1 t0) (y2 : Y2 = blk m c 2 t0) (y4 : Y4 = blk m c 4 t0) :
    studentCodes (whole ![0, 0] Y1 (by decide)) (whole ![0, 0] Y2 (by decide)) (whole ![0, 0] Y4 (by decide)) = YC m c := by
  subst y1 y2 y4; simp only [whole_eq]; rfl

theorem scales_first (c : Dev nD) (Y1 : Vec Ideal S128x1 .i32) (Y2 : Vec Ideal S256x3072 .bf16) (Y4 : Vec Ideal S1x3072 .f32)
    (y1 : Y1 = blk m c 1 t0) (y2 : Y2 = blk m c 2 t0) (y4 : Y4 = blk m c 4 t0) :
    studentScales (whole ![0, 0] Y1 (by decide)) (whole ![0, 0] Y2 (by decide)) (whole ![0, 0] Y4 (by decide)) = YS m c := by
  subst y1 y2 y4; simp only [whole_eq]; rfl

theorem lse12 (c : Dev nD) (e25 e26 e27 e28 : Vec Ideal S128x128 .f32) (i25 : e25 = (statT m c 42).1) (i26 : e26 = (statT m c 42).2)
    (i27 : e27 = (statS m c 42).1) (i28 : e28 = (statS m c 42).2) :
    k0_pay91 (whole ![0, 0] e25 (by decide)) (whole ![0, 0] e26 (by decide)) = LT m c := by
  subst i25 i26; simp only [whole_eq]; rfl

theorem lse13 (c : Dev nD) (e25 e26 e27 e28 : Vec Ideal S128x128 .f32) (i25 : e25 = (statT m c 42).1) (i26 : e26 = (statT m c 42).2)
    (i27 : e27 = (statS m c 42).1) (i28 : e28 = (statS m c 42).2) :
    k0_pay7 (k0_pay92 (whole ![0, 0] e27 (by decide)) (whole ![0, 0] e28 (by decide))) = LS m c := by
  subst i27 i28; simp only [whole_eq]; rfl

/-- The body at the points with t.val = 0. -/
theorem body_first (c : Dev nD) (t : Fin cfg0.N) (ht : t.val = 0) (Y : (w : Fin cfg0.W) → (cfg0.win w).block.Idx → Elt Ideal (cfg0.win w).elt)
    (hY : ∀ w, (rdat m c).Finds w t (Y w)) :
    bodyPre m c t Y ⊢ wp frame (wpE (defs₀ (F := Ideal)) Variants.none c none) Set.univ (bodyAt0 t) (fun _ => bodyPost m c t Y) := by
  have h1 : k0_cond1 (grid0.coords t) = 1#1 := (HandFrame.cond1_iff t).mpr (by omega)
  have h2 : k0_cond2 (grid0.coords t) = 1#1 := (HandFrame.cond2_iff t).mpr (by omega)
  have h3 : ¬ k0_cond3 (grid0.coords t) = 1#1 := fun h => absurd ((HandFrame.cond3_iff t).mp h) (by omega)
  have h4 : ¬ k0_cond4 (grid0.coords t) = 1#1 := fun h => absurd ((HandFrame.cond4_iff t).mp h) (by omega)
  have h5 : ¬ k0_cond5 (grid0.coords t) = 1#1 := fun h => absurd ((HandFrame.cond5_iff t).mp h) (by omega)
  obtain rfl : t = t0 := Fin.ext ht
  have y1 := fetched_whole m c 1 (by decide +kernel) (by decide +kernel) _ (hY 1)
  have y2 := fetched_whole m c 2 (by decide +kernel) (by decide +kernel) _ (hY 2)
  have y3 := fetched_whole m c 3 (by decide +kernel) (by decide +kernel) _ (hY 3)
  have y4 := fetched_whole m c 4 (by decide +kernel) (by decide +kernel) _ (hY 4)
  have y5 := fetched_whole m c 5 (by decide +kernel) (by decide +kernel) _ (hY 5)
  have eHT : teacherRows (Y 1) (Y 3) (Y 5) = HT m c := by rw [y1, y3, y5]; rfl
  have eYC : studentCodes (Y 1) (Y 2) (Y 4) = YC m c := by rw [y1, y2, y4]; rfl
  have eYS : studentScales (Y 1) (Y 2) (Y 4) = YS m c := by rw [y1, y2, y4]; rfl
  have hT := teacher_tile m c t0 (by decide) _ _ _ (((rdat m c).finds_of_fetch (fetch6 t0 (by decide)) _).mp (hY 6))
    (((rdat m c).finds_of_fetch (fetch7 t0 (by decide)) _).mp (hY 7)) (((rdat m c).finds_of_fetch (fetch8 t0 (by decide)) _).mp (hY 8))
  have hS := student_tile m c t0 (by decide) _ _ (((rdat m c).finds_of_fetch (fetch9 t0 (by decide)) _).mp (hY 9))
    (((rdat m c).finds_of_fetch (fetch10 t0 (by decide)) _).mp (hY 10))
  unfold bodyPre bodyPost bodyAt0 ScratchAt
  rw [show (rdat m c).owesAt () t0.succ = (rdat m c).owesAt () t0.castSucc from rfl]
  iintro ⟨⟨⟨%e19, %e20, %e21, %e22, %e23, %e24, %e25, %e26, %e27, %e28, %e29, %e30, %hI, H19, H20, H21, H22, H23, H24, H25, H26, H27, H28, H29, H30⟩, HP⟩, Ho, H1, H2, H3, H4, H5, H6, H7, H8, H9, H10, H11, H12, H13, H14, H15, H16, H17, H18⟩
  iapply (run_first c Set.univ (grid0.coords t0) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 1) (Y 2) (Y 3) (Y 4) (Y 5) (Y 6) (Y 7) (Y 8) (Y 9) (Y 10) (Y 16) (Y 17) e19 e20 e21 e22 e23 e25 e26 e27 e28 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H25]; · iexact H25
  isplitl [H26]; · iexact H26
  isplitl [H27]; · iexact H27
  isplitl [H28]; · iexact H28
  iintro ⟨H2, H3, H4, H5, H6, H7, H8, H9, H10, H11, H17, H18, H19, H20, H21, H22, H23, H25, H26, H27, H28⟩
  isplitl [HP H19 H20 H21 H22 H23 H24 H25 H26 H27 H28 H29 H30]
  · isplitr [HP]
    · iexists _, _, _, _, _, _, _, _, _, _, _, _; isplitr; swap
      · isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        iexact H30
      · ipureintro
        intro _ _
        simp only [whole_eq, stored_eq, coord0]
        rw [eHT, eYC, eYS, hT, hS]
        unfold statT statS
        rw [stat_succ, stat_succ]
        exact ⟨rfl, rfl, rfl, rfl, rfl⟩
    · iexact HP
  isplitl [Ho]; · iexact Ho
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; trivial
  isplitl [H13]
  · iexists _; isplitr; swap; · iexact H13
    ipureintro; exact ⟨fun h => absurd h (by omega), fun h => absurd h (by omega)⟩
  isplitl [H14]
  · iexists _; isplitr; swap; · iexact H14
    ipureintro; exact ⟨fun h => absurd h (by omega), fun h => absurd h (by omega)⟩
  isplitl [H15]
  · iexists _; isplitr; swap; · iexact H15
    ipureintro; trivial
  isplitl [H16]
  · iexists _; isplitr; swap; · iexact H16
    ipureintro; trivial
  isplitl [H17]
  · iexists _; isplitr; swap; · iexact H17
    ipureintro; exact ⟨fun _ => codes_first m c (Y 1) (Y 2) (Y 4) y1 y2 y4, fun h => absurd h (by omega)⟩
  iexists _; isplitr; swap; · iexact H18
  ipureintro; exact ⟨fun _ => scales_first m c (Y 1) (Y 2) (Y 4) y1 y2 y4, fun h => absurd h (by omega)⟩

/-- The body at the points with 0 < t.val ∧ t.val < 42. -/
theorem body_logits (c : Dev nD) (t : Fin cfg0.N) (ht : 0 < t.val ∧ t.val < 42) (Y : (w : Fin cfg0.W) → (cfg0.win w).block.Idx → Elt Ideal (cfg0.win w).elt)
    (hY : ∀ w, (rdat m c).Finds w t (Y w)) :
    bodyPre m c t Y ⊢ wp frame (wpE (defs₀ (F := Ideal)) Variants.none c none) Set.univ (bodyAt0 t) (fun _ => bodyPost m c t Y) := by
  have h1 : ¬ k0_cond1 (grid0.coords t) = 1#1 := fun h => absurd ((HandFrame.cond1_iff t).mp h) (by omega)
  have h2 : k0_cond2 (grid0.coords t) = 1#1 := (HandFrame.cond2_iff t).mpr (by omega)
  have h3 : ¬ k0_cond3 (grid0.coords t) = 1#1 := fun h => absurd ((HandFrame.cond3_iff t).mp h) (by omega)
  have h4 : ¬ k0_cond4 (grid0.coords t) = 1#1 := fun h => absurd ((HandFrame.cond4_iff t).mp h) (by omega)
  have h5 : ¬ k0_cond5 (grid0.coords t) = 1#1 := fun h => absurd ((HandFrame.cond5_iff t).mp h) (by omega)
  have hT := teacher_tile m c t (by omega) _ _ _ (((rdat m c).finds_of_fetch (fetch6 t (by omega)) _).mp (hY 6))
    (((rdat m c).finds_of_fetch (fetch7 t (by omega)) _).mp (hY 7)) (((rdat m c).finds_of_fetch (fetch8 t (by omega)) _).mp (hY 8))
  have hS := student_tile m c t (by omega) _ _ (((rdat m c).finds_of_fetch (fetch9 t (by omega)) _).mp (hY 9))
    (((rdat m c).finds_of_fetch (fetch10 t (by omega)) _).mp (hY 10))
  have y16 := finds_codes m c t.val t.isLt ht.1 _ (hY 16)
  have y17 := finds_scales m c t.val t.isLt ht.1 _ (hY 17)
  unfold bodyPre bodyPost bodyAt0 ScratchAt
  rw [show (rdat m c).owesAt () t.succ = (rdat m c).owesAt () t.castSucc from rfl]
  iintro ⟨⟨⟨%e19, %e20, %e21, %e22, %e23, %e24, %e25, %e26, %e27, %e28, %e29, %e30, %hI, H19, H20, H21, H22, H23, H24, H25, H26, H27, H28, H29, H30⟩, HP⟩, Ho, H1, H2, H3, H4, H5, H6, H7, H8, H9, H10, H11, H12, H13, H14, H15, H16, H17, H18⟩
  obtain ⟨i21, i25, i26, i27, i28⟩ := hI (by omega) (by omega)
  iapply (run_logits c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 6) (Y 7) (Y 8) (Y 9) (Y 10) (Y 16) (Y 17) e19 e20 e21 e25 e26 e27 e28 _)
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H19]; · iexact H19
  isplitl [H20]; · iexact H20
  isplitl [H21]; · iexact H21
  isplitl [H25]; · iexact H25
  isplitl [H26]; · iexact H26
  isplitl [H27]; · iexact H27
  isplitl [H28]; · iexact H28
  iintro ⟨H7, H8, H9, H10, H11, H17, H18, H19, H20, H21, H25, H26, H27, H28⟩
  isplitl [HP H19 H20 H21 H22 H23 H24 H25 H26 H27 H28 H29 H30]
  · isplitr [HP]
    · iexists _, _, _, _, _, _, _, _, _, _, _, _; isplitr; swap
      · isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        iexact H30
      · ipureintro
        intro _ _
        simp only [whole_eq, stored_eq, coord0]
        rw [y16, y17, i21, hT, hS, i25, i26, i27, i28]
        unfold statT statS
        rw [stat_succ, stat_succ]
        exact ⟨rfl, rfl, rfl, rfl, rfl⟩
    · iexact HP
  isplitl [Ho]; · iexact Ho
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; trivial
  isplitl [H13]
  · iexists _; isplitr; swap; · iexact H13
    ipureintro; exact ⟨fun h => absurd h (by omega), fun h => absurd h (by omega)⟩
  isplitl [H14]
  · iexists _; isplitr; swap; · iexact H14
    ipureintro; exact ⟨fun h => absurd h (by omega), fun h => absurd h (by omega)⟩
  isplitl [H15]
  · iexists _; isplitr; swap; · iexact H15
    ipureintro; trivial
  isplitl [H16]
  · iexists _; isplitr; swap; · iexact H16
    ipureintro; trivial
  isplitl [H17]
  · iexists _; isplitr; swap; · iexact H17
    ipureintro; exact ⟨fun h => absurd h (by omega), fun _ => rfl⟩
  iexists _; isplitr; swap; · iexact H18
  ipureintro; exact ⟨fun h => absurd h (by omega), fun _ => rfl⟩

/-- The body at the points with t.val = 42. -/
theorem body_mid (c : Dev nD) (t : Fin cfg0.N) (ht : t.val = 42) (Y : (w : Fin cfg0.W) → (cfg0.win w).block.Idx → Elt Ideal (cfg0.win w).elt)
    (hY : ∀ w, (rdat m c).Finds w t (Y w)) :
    bodyPre m c t Y ⊢ wp frame (wpE (defs₀ (F := Ideal)) Variants.none c none) Set.univ (bodyAt0 t) (fun _ => bodyPost m c t Y) := by
  have h1 : ¬ k0_cond1 (grid0.coords t) = 1#1 := fun h => absurd ((HandFrame.cond1_iff t).mp h) (by omega)
  have h2 : ¬ k0_cond2 (grid0.coords t) = 1#1 := fun h => absurd ((HandFrame.cond2_iff t).mp h) (by omega)
  have h3 : k0_cond3 (grid0.coords t) = 1#1 := (HandFrame.cond3_iff t).mpr (by omega)
  have h4 : k0_cond4 (grid0.coords t) = 1#1 := (HandFrame.cond4_iff t).mpr (by omega)
  have h5 : ¬ k0_cond5 (grid0.coords t) = 1#1 := fun h => absurd ((HandFrame.cond5_iff t).mp h) (by omega)
  unfold bodyPre bodyPost bodyAt0 ScratchAt
  rw [show (rdat m c).owesAt () t.succ = (rdat m c).owesAt () t.castSucc from rfl]
  iintro ⟨⟨⟨%e19, %e20, %e21, %e22, %e23, %e24, %e25, %e26, %e27, %e28, %e29, %e30, %hI, H19, H20, H21, H22, H23, H24, H25, H26, H27, H28, H29, H30⟩, HP⟩, Ho, H1, H2, H3, H4, H5, H6, H7, H8, H9, H10, H11, H12, H13, H14, H15, H16, H17, H18⟩
  obtain ⟨i21, i25, i26, i27, i28⟩ := hI (by omega) (by omega)
  iapply (half_mid c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 9) (Y 10) (Y 12) (Y 13) e19 e20 e24 e25 e26 e27 e28 e29 e30 _)
  isplitl [H10]; · iexact H10
  isplitl [H11]; · iexact H11
  isplitl [H13]; · iexact H13
  isplitl [H14]; · iexact H14
  isplitl [H19]; · iexact H19
  isplitl [H20]; · iexact H20
  isplitl [H24]; · iexact H24
  isplitl [H25]; · iexact H25
  isplitl [H26]; · iexact H26
  isplitl [H27]; · iexact H27
  isplitl [H28]; · iexact H28
  isplitl [H29]; · iexact H29
  isplitl [H30]; · iexact H30
  iintro ⟨H10, H11, H13, H14, H19, H20, ⟨%g24, H24⟩, ⟨%g25, H25⟩, H26, ⟨%g27, H27⟩, H28, ⟨%g29, H29⟩, ⟨%g30, H30⟩⟩
  isplitl [HP H19 H20 H21 H22 H23 H24 H25 H26 H27 H28 H29 H30]
  · isplitr [HP]
    · iexists _, _, _, _, _, _, _, _, _, _, _, _; isplitr; swap
      · isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        iexact H30
      · ipureintro
        intro _ h; omega
    · iexact HP
  isplitl [Ho]; · iexact Ho
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; trivial
  isplitl [H13]
  · iexists _; isplitr; swap; · iexact H13
    ipureintro; exact ⟨fun _ => lse12 m c e25 e26 e27 e28 (by rw [i25, ht]) (by rw [i26, ht]) (by rw [i27, ht]) (by rw [i28, ht]), fun h => absurd h (by omega)⟩
  isplitl [H14]
  · iexists _; isplitr; swap; · iexact H14
    ipureintro; exact ⟨fun _ => lse13 m c e25 e26 e27 e28 (by rw [i25, ht]) (by rw [i26, ht]) (by rw [i27, ht]) (by rw [i28, ht]), fun h => absurd h (by omega)⟩
  isplitl [H15]
  · iexists _; isplitr; swap; · iexact H15
    ipureintro; trivial
  isplitl [H16]
  · iexists _; isplitr; swap; · iexact H16
    ipureintro; trivial
  isplitl [H17]
  · iexists _; isplitr; swap; · iexact H17
    ipureintro; exact ⟨fun h => absurd h (by omega), fun _ => rfl⟩
  iexists _; isplitr; swap; · iexact H18
  ipureintro; exact ⟨fun h => absurd h (by omega), fun _ => rfl⟩

/-- The body at the points with 42 < t.val ∧ t.val < 83. -/
theorem body_grad (c : Dev nD) (t : Fin cfg0.N) (ht : 42 < t.val ∧ t.val < 83) (Y : (w : Fin cfg0.W) → (cfg0.win w).block.Idx → Elt Ideal (cfg0.win w).elt)
    (hY : ∀ w, (rdat m c).Finds w t (Y w)) :
    bodyPre m c t Y ⊢ wp frame (wpE (defs₀ (F := Ideal)) Variants.none c none) Set.univ (bodyAt0 t) (fun _ => bodyPost m c t Y) := by
  have h1 : ¬ k0_cond1 (grid0.coords t) = 1#1 := fun h => absurd ((HandFrame.cond1_iff t).mp h) (by omega)
  have h2 : ¬ k0_cond2 (grid0.coords t) = 1#1 := fun h => absurd ((HandFrame.cond2_iff t).mp h) (by omega)
  have h3 : ¬ k0_cond3 (grid0.coords t) = 1#1 := fun h => absurd ((HandFrame.cond3_iff t).mp h) (by omega)
  have h4 : k0_cond4 (grid0.coords t) = 1#1 := (HandFrame.cond4_iff t).mpr (by omega)
  have h5 : ¬ k0_cond5 (grid0.coords t) = 1#1 := fun h => absurd ((HandFrame.cond5_iff t).mp h) (by omega)
  unfold bodyPre bodyPost bodyAt0 ScratchAt
  rw [show (rdat m c).owesAt () t.succ = (rdat m c).owesAt () t.castSucc from rfl]
  iintro ⟨⟨⟨%e19, %e20, %e21, %e22, %e23, %e24, %e25, %e26, %e27, %e28, %e29, %e30, %hI, H19, H20, H21, H22, H23, H24, H25, H26, H27, H28, H29, H30⟩, HP⟩, Ho, H1, H2, H3, H4, H5, H6, H7, H8, H9, H10, H11, H12, H13, H14, H15, H16, H17, H18⟩
  iapply (HandFrame.weak_grad c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 9) (Y 10) e19 e20 e24 e25 e27 e29 e30 _)
  isplitl [H10]; · iexact H10
  isplitl [H11]; · iexact H11
  isplitl [H19]; · iexact H19
  isplitl [H20]; · iexact H20
  isplitl [H24]; · iexact H24
  isplitl [H25]; · iexact H25
  isplitl [H27]; · iexact H27
  isplitl [H29]; · iexact H29
  isplitl [H30]; · iexact H30
  iintro ⟨H10, H11, H19, H20, ⟨%g24, H24⟩, H25, H27, ⟨%g29, H29⟩, ⟨%g30, H30⟩⟩
  isplitl [HP H19 H20 H21 H22 H23 H24 H25 H26 H27 H28 H29 H30]
  · isplitr [HP]
    · iexists _, _, _, _, _, _, _, _, _, _, _, _; isplitr; swap
      · isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        iexact H30
      · ipureintro
        intro _ h; omega
    · iexact HP
  isplitl [Ho]; · iexact Ho
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; trivial
  isplitl [H13]
  · iexists _; isplitr; swap; · iexact H13
    ipureintro; exact ⟨fun h => absurd h (by omega), fun _ => rfl⟩
  isplitl [H14]
  · iexists _; isplitr; swap; · iexact H14
    ipureintro; exact ⟨fun h => absurd h (by omega), fun _ => rfl⟩
  isplitl [H15]
  · iexists _; isplitr; swap; · iexact H15
    ipureintro; trivial
  isplitl [H16]
  · iexists _; isplitr; swap; · iexact H16
    ipureintro; trivial
  isplitl [H17]
  · iexists _; isplitr; swap; · iexact H17
    ipureintro; exact ⟨fun h => absurd h (by omega), fun _ => rfl⟩
  iexists _; isplitr; swap; · iexact H18
  ipureintro; exact ⟨fun h => absurd h (by omega), fun _ => rfl⟩

/-- The body at the points with t.val = 83. -/
theorem body_last (c : Dev nD) (t : Fin cfg0.N) (ht : t.val = 83) (Y : (w : Fin cfg0.W) → (cfg0.win w).block.Idx → Elt Ideal (cfg0.win w).elt)
    (hY : ∀ w, (rdat m c).Finds w t (Y w)) :
    bodyPre m c t Y ⊢ wp frame (wpE (defs₀ (F := Ideal)) Variants.none c none) Set.univ (bodyAt0 t) (fun _ => bodyPost m c t Y) := by
  have h1 : ¬ k0_cond1 (grid0.coords t) = 1#1 := fun h => absurd ((HandFrame.cond1_iff t).mp h) (by omega)
  have h2 : ¬ k0_cond2 (grid0.coords t) = 1#1 := fun h => absurd ((HandFrame.cond2_iff t).mp h) (by omega)
  have h3 : ¬ k0_cond3 (grid0.coords t) = 1#1 := fun h => absurd ((HandFrame.cond3_iff t).mp h) (by omega)
  have h4 : k0_cond4 (grid0.coords t) = 1#1 := (HandFrame.cond4_iff t).mpr (by omega)
  have h5 : k0_cond5 (grid0.coords t) = 1#1 := (HandFrame.cond5_iff t).mpr (by omega)
  unfold bodyPre bodyPost bodyAt0 ScratchAt
  rw [show (rdat m c).owesAt () t.succ = (rdat m c).owesAt () t.castSucc from rfl]
  iintro ⟨⟨⟨%e19, %e20, %e21, %e22, %e23, %e24, %e25, %e26, %e27, %e28, %e29, %e30, %hI, H19, H20, H21, H22, H23, H24, H25, H26, H27, H28, H29, H30⟩, HP⟩, Ho, H1, H2, H3, H4, H5, H6, H7, H8, H9, H10, H11, H12, H13, H14, H15, H16, H17, H18⟩
  iapply (HandFrame.weak_last c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 (Y 0) (Y 4) (Y 9) (Y 10) (Y 11) (Y 14) (Y 15) e19 e20 e22 e23 e24 e25 e27 e29 e30 _)
  isplitl [H1]; · iexact H1
  isplitl [H5]; · iexact H5
  isplitl [H10]; · iexact H10
  isplitl [H11]; · iexact H11
  isplitl [H12]; · iexact H12
  isplitl [H15]; · iexact H15
  isplitl [H16]; · iexact H16
  isplitl [H19]; · iexact H19
  isplitl [H20]; · iexact H20
  isplitl [H22]; · iexact H22
  isplitl [H23]; · iexact H23
  isplitl [H24]; · iexact H24
  isplitl [H25]; · iexact H25
  isplitl [H27]; · iexact H27
  isplitl [H29]; · iexact H29
  isplitl [H30]; · iexact H30
  iintro ⟨H1, H5, H10, H11, ⟨%g12, H12⟩, ⟨%g15, H15⟩, ⟨%g16, H16⟩, H19, H20, H22, H23, ⟨%g24, H24⟩, H25, H27, ⟨%g29, H29⟩, ⟨%g30, H30⟩⟩
  isplitl [HP H19 H20 H21 H22 H23 H24 H25 H26 H27 H28 H29 H30]
  · isplitr [HP]
    · iexists _, _, _, _, _, _, _, _, _, _, _, _; isplitr; swap
      · isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        iexact H30
      · ipureintro
        intro _ h; omega
    · iexact HP
  isplitl [Ho]; · iexact Ho
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; trivial
  isplitl [H13]
  · iexists _; isplitr; swap; · iexact H13
    ipureintro; exact ⟨fun h => absurd h (by omega), fun _ => rfl⟩
  isplitl [H14]
  · iexists _; isplitr; swap; · iexact H14
    ipureintro; exact ⟨fun h => absurd h (by omega), fun _ => rfl⟩
  isplitl [H15]
  · iexists _; isplitr; swap; · iexact H15
    ipureintro; trivial
  isplitl [H16]
  · iexists _; isplitr; swap; · iexact H16
    ipureintro; trivial
  isplitl [H17]
  · iexists _; isplitr; swap; · iexact H17
    ipureintro; exact ⟨fun h => absurd h (by omega), fun _ => rfl⟩
  iexists _; isplitr; swap; · iexact H18
  ipureintro; exact ⟨fun h => absurd h (by omega), fun _ => rfl⟩

/-- The body at any point. -/
theorem body_any (c : Dev nD) (t : Fin cfg0.N) (Y : (w : Fin cfg0.W) → (cfg0.win w).block.Idx → Elt Ideal (cfg0.win w).elt)
    (hY : ∀ w, (rdat m c).Finds w t (Y w)) :
    bodyPre m c t Y ⊢ wp frame (wpE (defs₀ (F := Ideal)) Variants.none c none) Set.univ (bodyAt0 t) (fun _ => bodyPost m c t Y) := by
  have hN : t.val < 84 := t.isLt
  rcases Nat.lt_trichotomy t.val 42 with h | h | h
  · rcases Nat.eq_zero_or_pos t.val with h0 | h0
    · exact body_first m c t h0 Y hY
    · exact body_logits m c t ⟨h0, h⟩ Y hY
  · exact body_mid m c t h Y hY
  · rcases Nat.lt_or_ge t.val 83 with h0 | h0
    · exact body_grad m c t ⟨h, h0⟩ Y hY
    · exact body_last m c t (by omega) Y hY

theorem body_obligation (c : Dev nD) : (rdat m c).BodyObligation (defs₀ (F := Ideal)) Variants.none () Set.univ := fun t Y hY => by
  rw [bigSep_W0, bigSep_W0, HandFrame.defs₀_row]
  exact body_any m c t Y hY

theorem scratch_in (c : Dev nD) : (Pipeline.ΦA spec0 c : sProp 𝕄) ⊢ ScratchAt m c 0 := by
  refine (HandFrame.scratch_in c).trans ?_
  unfold HandFrame.ScratchAny ScratchAt
  iintro ⟨⟨⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩⟩, HP⟩
  isplitr [HP]
  · iexists e19, e20, e21, e22, e23, e24, e25, e26, e27, e28, e29, e30; isplitr; swap
    · isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      iexact H30
    · ipureintro; intro h; omega
  · iexact HP

theorem scratch_out (c : Dev nD) : (ScratchAt m c 84 : sProp 𝕄) ⊢ Pipeline.ΦA spec0 c := by
  refine .trans ?_ (HandFrame.scratch_out c)
  unfold HandFrame.ScratchAny ScratchAt
  iintro ⟨⟨%e19, %e20, %e21, %e22, %e23, %e24, %e25, %e26, %e27, %e28, %e29, %e30, %hI, H19, H20, H21, H22, H23, H24, H25, H26, H27, H28, H29, H30⟩, HP⟩
  isplitr [HP]
  · isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    iexists _; iexact H30
  · iexact HP

set_option backward.isDefEq.respectTransparency.types false in
/-- Every fair execution ends, with the arrays as the relation allows and every counter at zero. -/
theorem run_frame : θ_run defs (onTc (τ := τ) (main (F := Ideal))) (s₀ m ρ)
    (fun r => RDat.FramePost cfg0 (rdat m) (V m) r ∧ r.2.sem = fun _ => 0) :=
  RDat.θ_run_frame_track cfgs 0 launch0 defs₀ Variants.none (rdat m) m ρ main (body_obligation m)
    (fun c w => by unfold RDat.share rdat; split <;> rfl) (fun _ _ => rfl) (V m) (hmain m Variants.none) (fun _ _ => rfl)
    (scratch_in m) (scratch_out m) _ (fun _ h => h)

end Cert.KernelIdeal.Track

end
-- ==== Proof.Hand.Track.Result.lean ====
module

public import proofs.«01_k».proof.Proof.Hand.Track.Run
public import proofs.«01_k».proof.Proof.Hand.FrameIdeal.Run
public import Idealize.ShloMosaic.Lib.Pipeline.ArrRel
public import Idealize.ShloMosaic.Lib.Pipeline.ValueKit.Geometry

/-! # What a run of the kernel leaves in its results -/

@[expose] public section

noncomputable section

namespace Cert.KernelIdeal.Track

open Cert.KernelIdeal Cert.KernelIdeal.Gen Cert.KernelIdeal.Hand
open Idealize.ShloMosaic Idealize.ShloMosaic.TcCoe Idealize.SL.Sem
open Idealize.ShloMosaic.Pipeline (RDat Cfg Window)

variable (m : (ℓ : Loc nD τ sig) → Buf (Elt Ideal) ℓ) (ρ : Dev nD → PrngReg)

/-- An input window's array ends as it began. -/
theorem arr_kept {r : PUnit × MemSt nD τ sig (Elt Ideal)} (h : RDat.FramePost cfg0 (rdat m) (V m) r) (c : Dev nD) (w : Fin cfg0.W)
    (hin : (cfg0.win w).isOut = false) :
    r.2.mem ((cfg0.spec w).arr.view.loc (c.tc : Thread nD τ)) = V m c (Pipeline.arrRef spec0 w) := by
  have h1 := (h c).1 w
  rw [(rdat m c).ArrAt_in w hin] at h1
  exact h1

theorem whole12 : (cfg0.win 12).WholeAt ⟨83, by decide⟩ := by decide +kernel

theorem result12 {r : PUnit × MemSt nD τ sig (Elt Ideal)} (h : RDat.FramePost cfg0 (rdat m) (V m) r) (c : Dev nD) :
    r.2.mem ((c.tc : Thread nD τ).loc main_v6_1) = LT m c := by
  obtain ⟨X, hX, hG⟩ := RDat.ArrAt.emb_eq_of_wholeAt ((h c).1 12) whole12
  have e := leaves_lt m c X hX
  funext j
  exact (hG j).trans (congrFun e j)

theorem whole13 : (cfg0.win 13).WholeAt ⟨83, by decide⟩ := by decide +kernel

theorem result13 {r : PUnit × MemSt nD τ sig (Elt Ideal)} (h : RDat.FramePost cfg0 (rdat m) (V m) r) (c : Dev nD) :
    r.2.mem ((c.tc : Thread nD τ).loc main_v6_2) = LS m c := by
  obtain ⟨X, hX, hG⟩ := RDat.ArrAt.emb_eq_of_wholeAt ((h c).1 13) whole13
  have e := leaves_ls m c X hX
  funext j
  exact (hG j).trans (congrFun e j)

theorem whole16 : (cfg0.win 16).WholeAt ⟨83, by decide⟩ := by decide +kernel

theorem result16 {r : PUnit × MemSt nD τ sig (Elt Ideal)} (h : RDat.FramePost cfg0 (rdat m) (V m) r) (c : Dev nD) :
    r.2.mem ((c.tc : Thread nD τ).loc main_v6_5) = YC m c := by
  obtain ⟨X, hX, hG⟩ := RDat.ArrAt.emb_eq_of_wholeAt ((h c).1 16) whole16
  have e := leaves_codes m c X hX
  funext j
  exact (hG j).trans (congrFun e j)

theorem whole17 : (cfg0.win 17).WholeAt ⟨83, by decide⟩ := by decide +kernel

theorem result17 {r : PUnit × MemSt nD τ sig (Elt Ideal)} (h : RDat.FramePost cfg0 (rdat m) (V m) r) (c : Dev nD) :
    r.2.mem ((c.tc : Thread nD τ).loc main_v6_6) = YS m c := by
  obtain ⟨X, hX, hG⟩ := RDat.ArrAt.emb_eq_of_wholeAt ((h c).1 17) whole17
  have e := leaves_scales m c X hX
  funext j
  exact (hG j).trans (congrFun e j)

/-- A run of the kernel: what the four claimed results and the arguments hold at its end. -/
theorem run_results : θ_run defs (onTc (τ := τ) (main (F := Ideal))) ⟨m, fun _ => 0, ρ⟩ (fun r => ∀ c : Dev nD,
    r.2.mem ((c.tc : Thread nD τ).loc main_v6_1) = LT m c
    ∧ r.2.mem ((c.tc : Thread nD τ).loc main_v6_2) = LS m c
    ∧ r.2.mem ((c.tc : Thread nD τ).loc main_v6_5) = YC m c
    ∧ r.2.mem ((c.tc : Thread nD τ).loc main_v6_6) = YS m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  (θ_run defs _ _).mono (fun _ r c => ⟨result12 m r.1 c, result13 m r.1 c, result16 m r.1 c, result17 m r.1 c,
    ((r.1 c).2 main_arg0 (Pipeline.mem_restRefs_of main_arg0 (by decide) (by decide))).trans (V_main_arg0 m c),
    ((r.1 c).2 main_arg1 (Pipeline.mem_restRefs_of main_arg1 (by decide) (by decide))).trans (V_main_arg1 m c),
    ((r.1 c).2 main_arg2 (Pipeline.mem_restRefs_of main_arg2 (by decide) (by decide))).trans (V_main_arg2 m c),
    ((r.1 c).2 main_arg3 (Pipeline.mem_restRefs_of main_arg3 (by decide) (by decide))).trans (V_main_arg3 m c),
    (arr_kept m r.1 c 6 rfl).trans (V_main_arg4 m c),
    (arr_kept m r.1 c 7 rfl).trans (V_main_arg5 m c),
    (arr_kept m r.1 c 8 rfl).trans (V_main_arg6 m c),
    (arr_kept m r.1 c 9 rfl).trans (V_main_arg7 m c),
    ((r.1 c).2 main_arg8 (Pipeline.mem_restRefs_of main_arg8 (by decide) (by decide))).trans (V_main_arg8 m c),
    ((r.1 c).2 main_arg9 (Pipeline.mem_restRefs_of main_arg9 (by decide) (by decide))).trans (V_main_arg9 m c),
    (arr_kept m r.1 c 0 rfl).trans (V_main_arg10 m c)⟩) (run_frame m ρ)

end Cert.KernelIdeal.Track

end
-- ==== Proof.Hand.Algebraic.lean ====
module

public import proofs.«01_k».proof.Proof.Hand.Equal
public import proofs.«01_k».proof.Proof.Hand.Track.Result
public import proofs.«01_k».proof.Proof.Gen.KernelIdeal
public import proofs.«01_k».proof.Proof.Gen.ReferenceIdeal

/-! # The value claim -/

@[expose] public section

noncomputable section

namespace Cert.Claims

open Cert.Value Cert.Equal
open Idealize.ShloMosaic Idealize.ShloMosaic.TcCoe Idealize.SL.Sem
open Cert.KernelIdeal.Track (LT LS YC YS)

variable (m : KMem) (m' : RMem) (i : Fin 128 → Fin 256) (c : Dev Cert.KernelIdeal.nD)

/-- Two columns equal at every row are equal. -/
theorem col_ext (A B : Vec Ideal Cert.KernelIdeal.S128x1 .f32) (h : ∀ r : Fin 128, A (ix2 r 0) = B (ix2 r 0)) : A = B := by
  funext j
  obtain ⟨r, k, rfl⟩ := Cert.KernelIdeal.Track.eq_ix2 j
  obtain rfl : k = 0 := Subsingleton.elim _ _
  exact h r

/-- Two row blocks equal at every index are equal. -/
theorem rows_ext (A B : Vec Ideal Cert.KernelIdeal.S128x3072 .fp8e4m3) (h : ∀ (r : Fin 128) (k : Fin 3072), A (ix2 r k) = B (ix2 r k)) : A = B := by
  funext j
  obtain ⟨r, k, rfl⟩ := Cert.KernelIdeal.Track.eq_ix2 j
  exact h r k

theorem algebraic : Cert.algebraic_KernelIdeal_ReferenceIdeal_pre_rows_in_range (hKernelIdeal := Cert.KernelIdeal.Gen.facts)
    (hReferenceIdeal := Cert.ReferenceIdeal.Gen.facts) (hPre_rows_in_range := Cert.Pre_rows_in_range.Gen.facts) := by
  intro m g m' g' hpre hargs
  refine ⟨LT m, LS m, YC m, YS m, Cert.KernelIdeal.Track.run_results m g, ?_⟩
  refine (θ_run _ _ _).mono (fun r h c => ?_) (Cert.ReferenceIdeal.Value.run_blocks m' g')
  obtain ⟨h0, h1, h2, h3, h4, h5, h6, h7, h8, h9, h10⟩ := hargs c
  obtain ⟨i, hi⟩ := rows_of_pre m hpre c
  obtain ⟨r9, r10, r11, r12, hk⟩ := h c
  refine ⟨r9.trans ((Cert.ReferenceIdeal.Val.arr9 m' c).trans ?_), r10.trans ((Cert.ReferenceIdeal.Val.arr10 m' c).trans ?_),
    r11.trans ((Cert.ReferenceIdeal.Val.arr11 m' c).trans ?_), r12.trans ((Cert.ReferenceIdeal.Val.arr12 m' c).trans ?_), hk⟩
  · exact col_ext _ _ fun r => lse_teacher m m' i c hi h1 h3 h4 h5 h6 h9 r
  · exact col_ext _ _ fun r => lse_student m m' i c hi h0 h2 h7 h8 h9 r
  · exact rows_ext _ _ fun r k => (pay2_id _ r k).trans (codes m m' i c hi h0 h2 h9 r k)
  · exact col_ext _ _ fun r => (pay3_id _ r).trans (scales m m' i c hi h0 h2 h9 r)

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_rows_in_range
public import proofs.«01_k».proof.Proof.Hand.Frames
public import proofs.«01_k».proof.Proof.Hand.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Reference.Gen.facts,
  Cert.Pre_rows_in_range.Gen.facts,
  Cert.Claims.frame_kernel, Cert.Claims.frame_kernel_ideal, Cert.Claims.frame_kernel_ideal_pre, Cert.Claims.frame_reference_ideal,
  Cert.Claims.frame_reference_ideal_pre, Cert.Claims.frame_reference, Cert.Claims.preserves_kernel, Cert.Claims.preserves_reference,
  Cert.Claims.algebraic⟩

end Cert.Proof

end
